-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_bin [hPre_one_bin : Cert.Pre_one_bin.Facts] (m : (ℓ : Loc Cert.KernelIdeal.nD Cert.KernelIdeal.τ Cert.KernelIdeal.sig) → Buf (Elt Ideal) ℓ) : Prop :=
  ∀ c : Dev Cert.KernelIdeal.nD,
    (Cert.Pre_one_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_bin [hPre_one_bin : Cert.Pre_one_bin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_bin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_one_bin [hKernelIdeal : Cert.KernelIdeal.Facts] [hPre_one_bin : Cert.Pre_one_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_bin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_one_bin [hReferenceIdeal : Cert.ReferenceIdeal.Facts] [hPre_one_bin : Cert.Pre_one_bin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_bin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_one_bin [hKernelIdeal : Cert.KernelIdeal.Facts] [hReferenceIdeal : Cert.ReferenceIdeal.Facts] [hPre_one_bin : Cert.Pre_one_bin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_bin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_one_bin : Cert.Pre_one_bin.Facts),
    quiescent_Kernel (hKernel := hKernel)
    ∧ quiescent_KernelIdeal (hKernelIdeal := hKernelIdeal)
    ∧ quiescent_KernelIdeal_pre_one_bin (hKernelIdeal := hKernelIdeal) (hPre_one_bin := hPre_one_bin)
    ∧ quiescent_ReferenceIdeal (hReferenceIdeal := hReferenceIdeal)
    ∧ quiescent_ReferenceIdeal_pre_one_bin (hReferenceIdeal := hReferenceIdeal) (hPre_one_bin := hPre_one_bin)
    ∧ preserves_Kernel_KernelIdeal
    ∧ algebraic_KernelIdeal_ReferenceIdeal_pre_one_bin (hKernelIdeal := hKernelIdeal) (hReferenceIdeal := hReferenceIdeal) (hPre_one_bin := hPre_one_bin)
-- ==== Pre_one_bin.lean ====
abbrev S8192x64 : Shape := ⟨2, ![8192, 64]⟩
abbrev S64 : Shape := ⟨1, ![64]⟩
abbrev S64x64 : Shape := ⟨2, ![64, 64]⟩
abbrev S8192x64x1 : Shape := ⟨3, ![8192, 64, 1]⟩
abbrev S1x1x64 : Shape := ⟨3, ![1, 1, 64]⟩
abbrev S8192x64x64 : Shape := ⟨3, ![8192, 64, 64]⟩
abbrev S_ : Shape := ⟨0, ![]⟩

class Facts : Prop where
  bcast_S8192x64_S8192x64x1_0_1 : S8192x64.BroadcastsInDim S8192x64x1 (![0, 1] : Fin 2 → Fin S8192x64x1.rank)
  bcast_S64_S1x1x64_2 : S64.BroadcastsInDim S1x1x64 (![2] : Fin 1 → Fin S1x1x64.rank)
  bcast_S8192x64x1_S8192x64x64_0_1_2 : S8192x64x1.BroadcastsInDim S8192x64x64 (![0, 1, 2] : Fin 3 → Fin S8192x64x64.rank)
  bcast_S1x1x64_S8192x64x64_0_1_2 : S1x1x64.BroadcastsInDim S8192x64x64 (![0, 1, 2] : Fin 3 → Fin S8192x64x64.rank)
  natLt_1_32 : 1 < 32
  reducesTo_S8192x64x64_S8192x64_d2 : S8192x64x64.ReducesTo [2] S8192x64
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x64 .f32) (main_arg1 : FVec F S64 .f32) (main_arg2 : FVec F S64 .f32) (main_arg3 : FVec F S64x64 .f32) : IVec S_ 1 :=
  let main_v0 : FVec F S8192x64x1 .f32 := broadcastInDim S8192x64x1 ![0, 1] bcast_S8192x64_S8192x64x1_0_1 main_arg0
  let main_v1 : FVec F S1x1x64 .f32 := broadcastInDim S1x1x64 ![2] bcast_S64_S1x1x64_2 main_arg1
  let main_v2 : FVec F S8192x64x64 .f32 := broadcastInDim S8192x64x64 ![0, 1, 2] bcast_S8192x64x1_S8192x64x64_0_1_2 main_v0
  let main_v3 : FVec F S8192x64x64 .f32 := broadcastInDim S8192x64x64 ![0, 1, 2] bcast_S1x1x64_S8192x64x64_0_1_2 main_v1
  let main_v4 : IVec S8192x64x64 1 := cmpf .ogt main_v2 main_v3
  let main_v5 : FVec F S8192x64x1 .f32 := broadcastInDim S8192x64x1 ![0, 1] bcast_S8192x64_S8192x64x1_0_1 main_arg0
  let main_v6 : FVec F S1x1x64 .f32 := broadcastInDim S1x1x64 ![2] bcast_S64_S1x1x64_2 main_arg2
  let main_v7 : FVec F S8192x64x64 .f32 := broadcastInDim S8192x64x64 ![0, 1, 2] bcast_S8192x64x1_S8192x64x64_0_1_2 main_v5
  let main_v8 : FVec F S8192x64x64 .f32 := broadcastInDim S8192x64x64 ![0, 1, 2] bcast_S1x1x64_S8192x64x64_0_1_2 main_v6
  let main_v9 : IVec S8192x64x64 1 := cmpf .ole main_v7 main_v8
  let main_v10 : IVec S8192x64x64 1 := andi main_v4 main_v9
  let main_v11 : IVec S8192x64x64 32 := (extui 32 · natLt_1_32) main_v10
  let main_c : IVec S_ 32 := constantI S_ 32 0#32
  let main_v12 : IVec S8192x64 32 := (fun x v => Host.reduce IntOp.addi x v reducesTo_S8192x64x64_S8192x64_d2 h_S_) main_v11 main_c
  let main_c_0 : IVec S_ 32 := constantI S_ 32 1#32
  let main_v13 : IVec S8192x64 32 := broadcastInDim S8192x64 ![] bcast_S_S8192x64 main_c_0
  let main_v14 : IVec S8192x64 1 := cmpi .eq main_v12 main_v13
  let main_c_1 : IVec S_ 1 := constantI S_ 1 1#1
  let main_v15 : IVec S_ 1 := (fun x v => Host.reduce IntOp.andi x v reducesTo_S8192x64_S_d0_1 h_S_) main_v14 main_c_1
  main_v15
-- ==== Kernel.lean ====
abbrev S8192x64 : Shape := ⟨2, ![8192, 64]⟩
abbrev S64 : Shape := ⟨1, ![64]⟩
abbrev S64x64 : Shape := ⟨2, ![64, 64]⟩
abbrev S64x8192 : Shape := ⟨2, ![64, 8192]⟩
abbrev S64x1 : Shape := ⟨2, ![64, 1]⟩
abbrev S64x256 : Shape := ⟨2, ![64, 256]⟩
abbrev S64x64x8192 : Shape := ⟨3, ![64, 64, 8192]⟩
abbrev S6x64x64x256 : Shape := ⟨4, ![6, 64, 64, 256]⟩
abbrev S6 : Shape := ⟨1, ![6]⟩
abbrev S1 : Shape := ⟨1, ![1]⟩
abbrev S_ : Shape := ⟨0, ![]⟩
abbrev S1x64x64x256 : Shape := ⟨4, ![1, 64, 64, 256]⟩
abbrev S64x64x256 : Shape := ⟨3, ![64, 64, 256]⟩
abbrev S1x256 : Shape := ⟨2, ![1, 256]⟩
abbrev S1x1x64x256 : Shape := ⟨4, ![1, 1, 64, 256]⟩
abbrev S16x64x256 : Shape := ⟨3, ![16, 64, 256]⟩
abbrev S1x16x64x256 : Shape := ⟨4, ![1, 16, 64, 256]⟩
abbrev S8192x64x64 : Shape := ⟨3, ![8192, 64, 64]⟩

abbrev nBuf : Space → Nat
  | .hbm => 11
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x8192, .f32⟩
  | .hbm, ⟨5, _⟩ => ⟨S64x1, .f32⟩
  | .hbm, ⟨6, _⟩ => ⟨S64x256, .f32⟩
  | .hbm, ⟨7, _⟩ => ⟨S64x1, .f32⟩
  | .hbm, ⟨8, _⟩ => ⟨S64x256, .f32⟩
  | .hbm, ⟨9, _⟩ => ⟨S64x64x8192, .f32⟩
  | .hbm, ⟨10, _⟩ => ⟨S8192x64x64, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x64, .f32⟩
  | .local _ .vmem, ⟨5, _⟩ => ⟨S6x64x64x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c6_i32_2 : BitVec 32 := 6#32
  let v16 : BitVec 1 := Scalar.cmpi .sge arg1 c6_i32_2
  let v17 : BitVec 32 := Scalar.extui v16
  let c0_i32 : BitVec 32 := 0#32
  let v18 : BitVec 1 := Scalar.cmpi .ne v17 c0_i32
  v18

def k0_off1 (i : grid0.Coords) : Fin 1 → Nat :=
  let arg1 : BitVec 32 := BitVec.ofNat 32 (i 1).val
  let c6_i32 : BitVec 32 := 6#32
  let v2 : BitVec 32 := Scalar.remsi arg1 c6_i32
  ![v2.toNat]
def k0_off2 (i : grid0.Coords) : Fin 4 → Nat :=
  let arg1 : BitVec 32 := BitVec.ofNat 32 (i 1).val
  let c6_i32 : BitVec 32 := 6#32
  let v2 : BitVec 32 := Scalar.remsi arg1 c6_i32
  let c0_i32_478 : BitVec 32 := 0#32
  let c0_i32_479 : BitVec 32 := 0#32
  let c0_i32_480 : BitVec 32 := 0#32
  ![v2.toNat, 0, 0, 0]
def k0_off3 (i : grid0.Coords) : Fin 4 → Nat :=
  let arg1 : BitVec 32 := BitVec.ofNat 32 (i 1).val
  let c6_i32 : BitVec 32 := 6#32
  let v2 : BitVec 32 := Scalar.remsi arg1 c6_i32
  let v35 : Index := Scalar.indexCast v2
  let c0_12 : Index := 0#32
  let c0_13 : Index := 0#32
  let c0_14 : Index := 0#32
  ![v35.toNat, 0, 0, 0]
def k0_off4 (i : grid0.Coords) : Fin 4 → Nat :=
  let arg1 : BitVec 32 := BitVec.ofNat 32 (i 1).val
  let c6_i32 : BitVec 32 := 6#32
  let v2 : BitVec 32 := Scalar.remsi arg1 c6_i32
  let v51 : Index := Scalar.indexCast v2
  let c1_19 : Index := 1#32
  let c0_20 : Index := 0#32
  let c0_21 : Index := 0#32
  ![v51.toNat, 1, 0, 0]
def k0_off5 (i : grid0.Coords) : Fin 4 → Nat :=
  let arg1 : BitVec 32 := BitVec.ofNat 32 (i 1).val
  let c6_i32 : BitVec 32 := 6#32
  let v2 : BitVec 32 := Scalar.remsi arg1 c6_i32
  let v67 : Index := Scalar.indexCast v2
  let c2_26 : Index := 2#32
  let c0_27 : Index := 0#32
  let c0_28 : Index := 0#32
  ![v67.toNat, 2, 0, 0]
def k0_off6 (i : grid0.Coords) : Fin 4 → Nat :=
  let arg1 : BitVec 32 := BitVec.ofNat 32 (i 1).val
  let c6_i32 : BitVec 32 := 6#32
  let v2 : BitVec 32 := Scalar.remsi arg1 c6_i32
  let v83 : Index := Scalar.indexCast v2
  let c3_33 : Index := 3#32
  let c0_34 : Index := 0#32
  let c0_35 : Index := 0#32
  ![v83.toNat, 3, 0, 0]
def k0_off7 (i : grid0.Coords) : Fin 4 → Nat :=
  let arg1 : BitVec 32 := BitVec.ofNat 32 (i 1).val
  let c6_i32 : BitVec 32 := 6#32
  let v2 : BitVec 32 := Scalar.remsi arg1 c6_i32
  let v99 : Index := Scalar.indexCast v2
  let c4_40 : Index := 4#32
  let c0_41 : Index := 0#32
  let c0_42 : Index := 0#32
  ![v99.toNat, 4, 0, 0]
def k0_off8 (i : grid0.Coords) : Fin 4 → Nat :=
  let arg1 : BitVec 32 := BitVec.ofNat 32 (i 1).val
  let c6_i32 : BitVec 32 := 6#32
  let v2 : BitVec 32 := Scalar.remsi arg1 c6_i32
  let v115 : Index := Scalar.indexCast v2
  let c5_47 : Index := 5#32
  let c0_48 : Index := 0#32
  let c0_49 : Index := 0#32
  ![v115.toNat, 5, 0, 0]
def k0_off9 (i : grid0.Coords) : Fin 4 → Nat :=
  let arg1 : BitVec 32 := BitVec.ofNat 32 (i 1).val
  let c6_i32 : BitVec 32 := 6#32
  let v2 : BitVec 32 := Scalar.remsi arg1 c6_i32
  let v131 : Index := Scalar.indexCast v2
  let c6_54 : Index := 6#32
  let c0_55 : Index := 0#32
  let c0_56 : Index := 0#32
  ![v131.toNat, 6, 0, 0]
def k0_off10 (i : grid0.Coords) : Fin 4 → Nat :=
  let arg1 : BitVec 32 := BitVec.ofNat 32 (i 1).val
  let c6_i32 : BitVec 32 := 6#32
  let v2 : BitVec 32 := Scalar.remsi arg1 c6_i32
  let v147 : Index := Scalar.indexCast v2
  let c7_61 : Index := 7#32
  let c0_62 : Index := 0#32
  let c0_63 : Index := 0#32
  ![v147.toNat, 7, 0, 0]
def k0_off11 (i : grid0.Coords) : Fin 4 → Nat :=
  let arg1 : BitVec 32 := BitVec.ofNat 32 (i 1).val
  let c6_i32 : BitVec 32 := 6#32
  let v2 : BitVec 32 := Scalar.remsi arg1 c6_i32
  let v163 : Index := Scalar.indexCast v2
  let c8_68 : Index := 8#32
  let c0_69 : Index := 0#32
  let c0_70 : Index := 0#32
  ![v163.toNat, 8, 0, 0]
def k0_off12 (i : grid0.Coords) : Fin 4 → Nat :=
  let arg1 : BitVec 32 := BitVec.ofNat 32 (i 1).val
  let c6_i32 : BitVec 32 := 6#32
  let v2 : BitVec 32 := Scalar.remsi arg1 c6_i32
  let v179 : Index := Scalar.indexCast v2
  let c9_75 : Index := 9#32
  let c0_76 : Index := 0#32
  let c0_77 : Index := 0#32
  ![v179.toNat, 9, 0, 0]
def k0_off13 (i : grid0.Coords) : Fin 4 → Nat :=
  let arg1 : BitVec 32 := BitVec.ofNat 32 (i 1).val
  let c6_i32 : BitVec 32 := 6#32
  let v2 : BitVec 32 := Scalar.remsi arg1 c6_i32
  let v195 : Index := Scalar.indexCast v2
  let c10_82 : Index := 10#32
  let c0_83 : Index := 0#32
  let c0_84 : Index := 0#32
  ![v195.toNat, 10, 0, 0]
def k0_off14 (i : grid0.Coords) : Fin 4 → Nat :=
  let arg1 : BitVec 32 := BitVec.ofNat 32 (i 1).val
  let c6_i32 : BitVec 32 := 6#32
  let v2 : BitVec 32 := Scalar.remsi arg1 c6_i32
  let v211 : Index := Scalar.indexCast v2
  let c11_89 : Index := 11#32
  let c0_90 : Index := 0#32
  let c0_91 : Index := 0#32
  ![v211.toNat, 11, 0, 0]
def k0_off15 (i : grid0.Coords) : Fin 4 → Nat :=
  let arg1 : BitVec 32 := BitVec.ofNat 32 (i 1).val
  let c6_i32 : BitVec 32 := 6#32
  let v2 : BitVec 32 := Scalar.remsi arg1 c6_i32
  let v227 : Index := Scalar.indexCast v2
  let c12_96 : Index := 12#32
  let c0_97 : Index := 0#32
  let c0_98 : Index := 0#32
  ![v227.toNat, 12, 0, 0]
def k0_off16 (i : grid0.Coords) : Fin 4 → Nat :=
  let arg1 : BitVec 32 := BitVec.ofNat 32 (i 1).val
  let c6_i32 : BitVec 32 := 6#32
  let v2 : BitVec 32 := Scalar.remsi arg1 c6_i32
  let v243 : Index := Scalar.indexCast v2
  let c13_103 : Index := 13#32
  let c0_104 : Index := 0#32
  let c0_105 : Index := 0#32
  ![v243.toNat, 13, 0, 0]
def k0_off17 (i : grid0.Coords) : Fin 4 → Nat :=
  let arg1 : BitVec 32 := BitVec.ofNat 32 (i 1).val
  let c6_i32 : BitVec 32 := 6#32
  let v2 : BitVec 32 := Scalar.remsi arg1 c6_i32
  let v259 : Index := Scalar.indexCast v2
  let c14_110 : Index := 14#32
  let c0_111 : Index := 0#32
  let c0_112 : Index := 0#32
  ![v259.toNat, 14, 0, 0]
def k0_off18 (i : grid0.Coords) : Fin 4 → Nat :=
  let arg1 : BitVec 32 := BitVec.ofNat 32 (i 1).val
  let c6_i32 : BitVec 32 := 6#32
  let v2 : BitVec 32 := Scalar.remsi arg1 c6_i32
  let v275 : Index := Scalar.indexCast v2
  let c15_117 : Index := 15#32
  let c0_118 : Index := 0#32
  let c0_119 : Index := 0#32
  ![v275.toNat, 15, 0, 0]
def k0_off19 (i : grid0.Coords) : Fin 1 → Nat :=
  let arg1 : BitVec 32 := BitVec.ofNat 32 (i 1).val
  let c6_i32 : BitVec 32 := 6#32
  let v2 : BitVec 32 := Scalar.remsi arg1 c6_i32
  ![v2.toNat]
def k0_off20 (i : grid0.Coords) : Fin 3 → Nat :=
  let c0_i32_120 : BitVec 32 := 0#32
  let c0_i32_121 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v279 : BitVec 32 := Scalar.muli v1 c256_i32
  ![0, 0, v279.toNat]
def k0_off21 (i : grid0.Coords) : Fin 4 → Nat :=
  let arg1 : BitVec 32 := BitVec.ofNat 32 (i 1).val
  let c6_i32 : BitVec 32 := 6#32
  let v2 : BitVec 32 := Scalar.remsi arg1 c6_i32
  let c0_i32_122 : BitVec 32 := 0#32
  let c0_i32_123 : BitVec 32 := 0#32
  let c0_i32_124 : BitVec 32 := 0#32
  ![v2.toNat, 0, 0, 0]
def k0_off22 (i : grid0.Coords) : Fin 4 → Nat :=
  let arg1 : BitVec 32 := BitVec.ofNat 32 (i 1).val
  let c6_i32 : BitVec 32 := 6#32
  let v2 : BitVec 32 := Scalar.remsi arg1 c6_i32
  let v297 : Index := Scalar.indexCast v2
  let c16_129 : Index := 16#32
  let c0_130 : Index := 0#32
  let c0_131 : Index := 0#32
  ![v297.toNat, 16, 0, 0]
def k0_off23 (i : grid0.Coords) : Fin 4 → Nat :=
  let arg1 : BitVec 32 := BitVec.ofNat 32 (i 1).val
  let c6_i32 : BitVec 32 := 6#32
  let v2 : BitVec 32 := Scalar.remsi arg1 c6_i32
  let v313 : Index := Scalar.indexCast v2
  let c17_136 : Index := 17#32
  let c0_137 : Index := 0#32
  let c0_138 : Index := 0#32
  ![v313.toNat, 17, 0, 0]
def k0_off24 (i : grid0.Coords) : Fin 4 → Nat :=
  let arg1 : BitVec 32 := BitVec.ofNat 32 (i 1).val
  let c6_i32 : BitVec 32 := 6#32
  let v2 : BitVec 32 := Scalar.remsi arg1 c6_i32
  let v329 : Index := Scalar.indexCast v2
  let c18_143 : Index := 18#32
  let c0_144 : Index := 0#32
  let c0_145 : Index := 0#32
  ![v329.toNat, 18, 0, 0]
def k0_off25 (i : grid0.Coords) : Fin 4 → Nat :=
  let arg1 : BitVec 32 := BitVec.ofNat 32 (i 1).val
  let c6_i32 : BitVec 32 := 6#32
  let v2 : BitVec 32 := Scalar.remsi arg1 c6_i32
  let v345 : Index := Scalar.indexCast v2
  let c19_150 : Index := 19#32
  let c0_151 : Index := 0#32
  let c0_152 : Index := 0#32
  ![v345.toNat, 19, 0, 0]
def k0_off26 (i : grid0.Coords) : Fin 4 → Nat :=
  let arg1 : BitVec 32 := BitVec.ofNat 32 (i 1).val
  let c6_i32 : BitVec 32 := 6#32
  let v2 : BitVec 32 := Scalar.remsi arg1 c6_i32
  let v361 : Index := Scalar.indexCast v2
  let c20_157 : Index := 20#32
  let c0_158 : Index := 0#32
  let c0_159 : Index := 0#32
  ![v361.toNat, 20, 0, 0]
def k0_off27 (i : grid0.Coords) : Fin 4 → Nat :=
  let arg1 : BitVec 32 := BitVec.ofNat 32 (i 1).val
  let c6_i32 : BitVec 32 := 6#32
  let v2 : BitVec 32 := Scalar.remsi arg1 c6_i32
  let v377 : Index := Scalar.indexCast v2
  let c21_164 : Index := 21#32
  let c0_165 : Index := 0#32
  let c0_166 : Index := 0#32
  ![v377.toNat, 21, 0, 0]
def k0_off28 (i : grid0.Coords) : Fin 4 → Nat :=
  let arg1 : BitVec 32 := BitVec.ofNat 32 (i 1).val
  let c6_i32 : BitVec 32 := 6#32
  let v2 : BitVec 32 := Scalar.remsi arg1 c6_i32
  let v393 : Index := Scalar.indexCast v2
  let c22_171 : Index := 22#32
  let c0_172 : Index := 0#32
  let c0_173 : Index := 0#32
  ![v393.toNat, 22, 0, 0]
def k0_off29 (i : grid0.Coords) : Fin 4 → Nat :=
  let arg1 : BitVec 32 := BitVec.ofNat 32 (i 1).val
  let c6_i32 : BitVec 32 := 6#32
  let v2 : BitVec 32 := Scalar.remsi arg1 c6_i32
  let v409 : Index := Scalar.indexCast v2
  let c23_178 : Index := 23#32
  let c0_179 : Index := 0#32
  let c0_180 : Index := 0#32
  ![v409.toNat, 23, 0, 0]
def k0_off30 (i : grid0.Coords) : Fin 4 → Nat :=
  let arg1 : BitVec 32 := BitVec.ofNat 32 (i 1).val
  let c6_i32 : BitVec 32 := 6#32
  let v2 : BitVec 32 := Scalar.remsi arg1 c6_i32
  let v425 : Index := Scalar.indexCast v2
  let c24_185 : Index := 24#32
  let c0_186 : Index := 0#32
  let c0_187 : Index := 0#32
  ![v425.toNat, 24, 0, 0]
def k0_off31 (i : grid0.Coords) : Fin 4 → Nat :=
  let arg1 : BitVec 32 := BitVec.ofNat 32 (i 1).val
  let c6_i32 : BitVec 32 := 6#32
  let v2 : BitVec 32 := Scalar.remsi arg1 c6_i32
  let v441 : Index := Scalar.indexCast v2
  let c25_192 : Index := 25#32
  let c0_193 : Index := 0#32
  let c0_194 : Index := 0#32
  ![v441.toNat, 25, 0, 0]
def k0_off32 (i : grid0.Coords) : Fin 4 → Nat :=
  let arg1 : BitVec 32 := BitVec.ofNat 32 (i 1).val
  let c6_i32 : BitVec 32 := 6#32
  let v2 : BitVec 32 := Scalar.remsi arg1 c6_i32
  let v457 : Index := Scalar.indexCast v2
  let c26_199 : Index := 26#32
  let c0_200 : Index := 0#32
  let c0_201 : Index := 0#32
  ![v457.toNat, 26, 0, 0]
def k0_off33 (i : grid0.Coords) : Fin 4 → Nat :=
  let arg1 : BitVec 32 := BitVec.ofNat 32 (i 1).val
  let c6_i32 : BitVec 32 := 6#32
  let v2 : BitVec 32 := Scalar.remsi arg1 c6_i32
  let v473 : Index := Scalar.indexCast v2
  let c27_206 : Index := 27#32
  let c0_207 : Index := 0#32
  let c0_208 : Index := 0#32
  ![v473.toNat, 27, 0, 0]
def k0_off34 (i : grid0.Coords) : Fin 4 → Nat :=
  let arg1 : BitVec 32 := BitVec.ofNat 32 (i 1).val
  let c6_i32 : BitVec 32 := 6#32
  let v2 : BitVec 32 := Scalar.remsi arg1 c6_i32
  let v489 : Index := Scalar.indexCast v2
  let c28_213 : Index := 28#32
  let c0_214 : Index := 0#32
  let c0_215 : Index := 0#32
  ![v489.toNat, 28, 0, 0]
def k0_off35 (i : grid0.Coords) : Fin 4 → Nat :=
  let arg1 : BitVec 32 := BitVec.ofNat 32 (i 1).val
  let c6_i32 : BitVec 32 := 6#32
  let v2 : BitVec 32 := Scalar.remsi arg1 c6_i32
  let v505 : Index := Scalar.indexCast v2
  let c29_220 : Index := 29#32
  let c0_221 : Index := 0#32
  let c0_222 : Index := 0#32
  ![v505.toNat, 29, 0, 0]
def k0_off36 (i : grid0.Coords) : Fin 4 → Nat :=
  let arg1 : BitVec 32 := BitVec.ofNat 32 (i 1).val
  let c6_i32 : BitVec 32 := 6#32
  let v2 : BitVec 32 := Scalar.remsi arg1 c6_i32
  let v521 : Index := Scalar.indexCast v2
  let c30_227 : Index := 30#32
  let c0_228 : Index := 0#32
  let c0_229 : Index := 0#32
  ![v521.toNat, 30, 0, 0]
def k0_off37 (i : grid0.Coords) : Fin 4 → Nat :=
  let arg1 : BitVec 32 := BitVec.ofNat 32 (i 1).val
  let c6_i32 : BitVec 32 := 6#32
  let v2 : BitVec 32 := Scalar.remsi arg1 c6_i32
  let v537 : Index := Scalar.indexCast v2
  let c31_234 : Index := 31#32
  let c0_235 : Index := 0#32
  let c0_236 : Index := 0#32
  ![v537.toNat, 31, 0, 0]
def k0_off38 (i : grid0.Coords) : Fin 3 → Nat :=
  let c16_i32_238 : BitVec 32 := 16#32
  let c0_i32_239 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32_237 : BitVec 32 := 256#32
  let v541 : BitVec 32 := Scalar.muli v1 c256_i32_237
  ![16, 0, v541.toNat]
def k0_off39 (i : grid0.Coords) : Fin 4 → Nat :=
  let arg1 : BitVec 32 := BitVec.ofNat 32 (i 1).val
  let c6_i32 : BitVec 32 := 6#32
  let v2 : BitVec 32 := Scalar.remsi arg1 c6_i32
  let c16_i32_240 : BitVec 32 := 16#32
  let c0_i32_241 : BitVec 32 := 0#32
  let c0_i32_242 : BitVec 32 := 0#32
  ![v2.toNat, 16, 0, 0]
def k0_off40 (i : grid0.Coords) : Fin 4 → Nat :=
  let arg1 : BitVec 32 := BitVec.ofNat 32 (i 1).val
  let c6_i32 : BitVec 32 := 6#32
  let v2 : BitVec 32 := Scalar.remsi arg1 c6_i32
  let v559 : Index := Scalar.indexCast v2
  let c32_247 : Index := 32#32
  let c0_248 : Index := 0#32
  let c0_249 : Index := 0#32
  ![v559.toNat, 32, 0, 0]
def k0_off41 (i : grid0.Coords) : Fin 4 → Nat :=
  let arg1 : BitVec 32 := BitVec.ofNat 32 (i 1).val
  let c6_i32 : BitVec 32 := 6#32
  let v2 : BitVec 32 := Scalar.remsi arg1 c6_i32
  let v575 : Index := Scalar.indexCast v2
  let c33_254 : Index := 33#32
  let c0_255 : Index := 0#32
  let c0_256 : Index := 0#32
  ![v575.toNat, 33, 0, 0]
def k0_off42 (i : grid0.Coords) : Fin 4 → Nat :=
  let arg1 : BitVec 32 := BitVec.ofNat 32 (i 1).val
  let c6_i32 : BitVec 32 := 6#32
  let v2 : BitVec 32 := Scalar.remsi arg1 c6_i32
  let v591 : Index := Scalar.indexCast v2
  let c34_261 : Index := 34#32
  let c0_262 : Index := 0#32
  let c0_263 : Index := 0#32
  ![v591.toNat, 34, 0, 0]
def k0_off43 (i : grid0.Coords) : Fin 4 → Nat :=
  let arg1 : BitVec 32 := BitVec.ofNat 32 (i 1).val
  let c6_i32 : BitVec 32 := 6#32
  let v2 : BitVec 32 := Scalar.remsi arg1 c6_i32
  let v607 : Index := Scalar.indexCast v2
  let c35_268 : Index := 35#32
  let c0_269 : Index := 0#32
  let c0_270 : Index := 0#32
  ![v607.toNat, 35, 0, 0]
def k0_off44 (i : grid0.Coords) : Fin 4 → Nat :=
  let arg1 : BitVec 32 := BitVec.ofNat 32 (i 1).val
  let c6_i32 : BitVec 32 := 6#32
  let v2 : BitVec 32 := Scalar.remsi arg1 c6_i32
  let v623 : Index := Scalar.indexCast v2
  let c36_275 : Index := 36#32
  let c0_276 : Index := 0#32
  let c0_277 : Index := 0#32
  ![v623.toNat, 36, 0, 0]
def k0_off45 (i : grid0.Coords) : Fin 4 → Nat :=
  let arg1 : BitVec 32 := BitVec.ofNat 32 (i 1).val
  let c6_i32 : BitVec 32 := 6#32
  let v2 : BitVec 32 := Scalar.remsi arg1 c6_i32
  let v639 : Index := Scalar.indexCast v2
  let c37_282 : Index := 37#32
  let c0_283 : Index := 0#32
  let c0_284 : Index := 0#32
  ![v639.toNat, 37, 0, 0]
def k0_off46 (i : grid0.Coords) : Fin 4 → Nat :=
  let arg1 : BitVec 32 := BitVec.ofNat 32 (i 1).val
  let c6_i32 : BitVec 32 := 6#32
  let v2 : BitVec 32 := Scalar.remsi arg1 c6_i32
  let v655 : Index := Scalar.indexCast v2
  let c38_289 : Index := 38#32
  let c0_290 : Index := 0#32
  let c0_291 : Index := 0#32
  ![v655.toNat, 38, 0, 0]
def k0_off47 (i : grid0.Coords) : Fin 4 → Nat :=
  let arg1 : BitVec 32 := BitVec.ofNat 32 (i 1).val
  let c6_i32 : BitVec 32 := 6#32
  let v2 : BitVec 32 := Scalar.remsi arg1 c6_i32
  let v671 : Index := Scalar.indexCast v2
  let c39_296 : Index := 39#32
  let c0_297 : Index := 0#32
  let c0_298 : Index := 0#32
  ![v671.toNat, 39, 0, 0]
def k0_off48 (i : grid0.Coords) : Fin 4 → Nat :=
  let arg1 : BitVec 32 := BitVec.ofNat 32 (i 1).val
  let c6_i32 : BitVec 32 := 6#32
  let v2 : BitVec 32 := Scalar.remsi arg1 c6_i32
  let v687 : Index := Scalar.indexCast v2
  let c40_303 : Index := 40#32
  let c0_304 : Index := 0#32
  let c0_305 : Index := 0#32
  ![v687.toNat, 40, 0, 0]
def k0_off49 (i : grid0.Coords) : Fin 4 → Nat :=
  let arg1 : BitVec 32 := BitVec.ofNat 32 (i 1).val
  let c6_i32 : BitVec 32 := 6#32
  let v2 : BitVec 32 := Scalar.remsi arg1 c6_i32
  let v703 : Index := Scalar.indexCast v2
  let c41_310 : Index := 41#32
  let c0_311 : Index := 0#32
  let c0_312 : Index := 0#32
  ![v703.toNat, 41, 0, 0]
def k0_off50 (i : grid0.Coords) : Fin 4 → Nat :=
  let arg1 : BitVec 32 := BitVec.ofNat 32 (i 1).val
  let c6_i32 : BitVec 32 := 6#32
  let v2 : BitVec 32 := Scalar.remsi arg1 c6_i32
  let v719 : Index := Scalar.indexCast v2
  let c42_317 : Index := 42#32
  let c0_318 : Index := 0#32
  let c0_319 : Index := 0#32
  ![v719.toNat, 42, 0, 0]
def k0_off51 (i : grid0.Coords) : Fin 4 → Nat :=
  let arg1 : BitVec 32 := BitVec.ofNat 32 (i 1).val
  let c6_i32 : BitVec 32 := 6#32
  let v2 : BitVec 32 := Scalar.remsi arg1 c6_i32
  let v735 : Index := Scalar.indexCast v2
  let c43_324 : Index := 43#32
  let c0_325 : Index := 0#32
  let c0_326 : Index := 0#32
  ![v735.toNat, 43, 0, 0]
def k0_off52 (i : grid0.Coords) : Fin 4 → Nat :=
  let arg1 : BitVec 32 := BitVec.ofNat 32 (i 1).val
  let c6_i32 : BitVec 32 := 6#32
  let v2 : BitVec 32 := Scalar.remsi arg1 c6_i32
  let v751 : Index := Scalar.indexCast v2
  let c44_331 : Index := 44#32
  let c0_332 : Index := 0#32
  let c0_333 : Index := 0#32
  ![v751.toNat, 44, 0, 0]
def k0_off53 (i : grid0.Coords) : Fin 4 → Nat :=
  let arg1 : BitVec 32 := BitVec.ofNat 32 (i 1).val
  let c6_i32 : BitVec 32 := 6#32
  let v2 : BitVec 32 := Scalar.remsi arg1 c6_i32
  let v767 : Index := Scalar.indexCast v2
  let c45_338 : Index := 45#32
  let c0_339 : Index := 0#32
  let c0_340 : Index := 0#32
  ![v767.toNat, 45, 0, 0]
def k0_off54 (i : grid0.Coords) : Fin 4 → Nat :=
  let arg1 : BitVec 32 := BitVec.ofNat 32 (i 1).val
  let c6_i32 : BitVec 32 := 6#32
  let v2 : BitVec 32 := Scalar.remsi arg1 c6_i32
  let v783 : Index := Scalar.indexCast v2
  let c46_345 : Index := 46#32
  let c0_346 : Index := 0#32
  let c0_347 : Index := 0#32
  ![v783.toNat, 46, 0, 0]
def k0_off55 (i : grid0.Coords) : Fin 4 → Nat :=
  let arg1 : BitVec 32 := BitVec.ofNat 32 (i 1).val
  let c6_i32 : BitVec 32 := 6#32
  let v2 : BitVec 32 := Scalar.remsi arg1 c6_i32
  let v799 : Index := Scalar.indexCast v2
  let c47_352 : Index := 47#32
  let c0_353 : Index := 0#32
  let c0_354 : Index := 0#32
  ![v799.toNat, 47, 0, 0]
def k0_off56 (i : grid0.Coords) : Fin 3 → Nat :=
  let c32_i32 : BitVec 32 := 32#32
  let c0_i32_356 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32_355 : BitVec 32 := 256#32
  let v803 : BitVec 32 := Scalar.muli v1 c256_i32_355
  ![32, 0, v803.toNat]
def k0_off57 (i : grid0.Coords) : Fin 4 → Nat :=
  let arg1 : BitVec 32 := BitVec.ofNat 32 (i 1).val
  let c6_i32 : BitVec 32 := 6#32
  let v2 : BitVec 32 := Scalar.remsi arg1 c6_i32
  let c32_i32_357 : BitVec 32 := 32#32
  let c0_i32_358 : BitVec 32 := 0#32
  let c0_i32_359 : BitVec 32 := 0#32
  ![v2.toNat, 32, 0, 0]
def k0_off58 (i : grid0.Coords) : Fin 4 → Nat :=
  let arg1 : BitVec 32 := BitVec.ofNat 32 (i 1).val
  let c6_i32 : BitVec 32 := 6#32
  let v2 : BitVec 32 := Scalar.remsi arg1 c6_i32
  let v821 : Index := Scalar.indexCast v2
  let c48_364 : Index := 48#32
  let c0_365 : Index := 0#32
  let c0_366 : Index := 0#32
  ![v821.toNat, 48, 0, 0]
def k0_off59 (i : grid0.Coords) : Fin 4 → Nat :=
  let arg1 : BitVec 32 := BitVec.ofNat 32 (i 1).val
  let c6_i32 : BitVec 32 := 6#32
  let v2 : BitVec 32 := Scalar.remsi arg1 c6_i32
  let v837 : Index := Scalar.indexCast v2
  let c49_371 : Index := 49#32
  let c0_372 : Index := 0#32
  let c0_373 : Index := 0#32
  ![v837.toNat, 49, 0, 0]
def k0_off60 (i : grid0.Coords) : Fin 4 → Nat :=
  let arg1 : BitVec 32 := BitVec.ofNat 32 (i 1).val
  let c6_i32 : BitVec 32 := 6#32
  let v2 : BitVec 32 := Scalar.remsi arg1 c6_i32
  let v853 : Index := Scalar.indexCast v2
  let c50_378 : Index := 50#32
  let c0_379 : Index := 0#32
  let c0_380 : Index := 0#32
  ![v853.toNat, 50, 0, 0]
def k0_off61 (i : grid0.Coords) : Fin 4 → Nat :=
  let arg1 : BitVec 32 := BitVec.ofNat 32 (i 1).val
  let c6_i32 : BitVec 32 := 6#32
  let v2 : BitVec 32 := Scalar.remsi arg1 c6_i32
  let v869 : Index := Scalar.indexCast v2
  let c51_385 : Index := 51#32
  let c0_386 : Index := 0#32
  let c0_387 : Index := 0#32
  ![v869.toNat, 51, 0, 0]
def k0_off62 (i : grid0.Coords) : Fin 4 → Nat :=
  let arg1 : BitVec 32 := BitVec.ofNat 32 (i 1).val
  let c6_i32 : BitVec 32 := 6#32
  let v2 : BitVec 32 := Scalar.remsi arg1 c6_i32
  let v885 : Index := Scalar.indexCast v2
  let c52_392 : Index := 52#32
  let c0_393 : Index := 0#32
  let c0_394 : Index := 0#32
  ![v885.toNat, 52, 0, 0]
def k0_off63 (i : grid0.Coords) : Fin 4 → Nat :=
  let arg1 : BitVec 32 := BitVec.ofNat 32 (i 1).val
  let c6_i32 : BitVec 32 := 6#32
  let v2 : BitVec 32 := Scalar.remsi arg1 c6_i32
  let v901 : Index := Scalar.indexCast v2
  let c53_399 : Index := 53#32
  let c0_400 : Index := 0#32
  let c0_401 : Index := 0#32
  ![v901.toNat, 53, 0, 0]
def k0_off64 (i : grid0.Coords) : Fin 4 → Nat :=
  let arg1 : BitVec 32 := BitVec.ofNat 32 (i 1).val
  let c6_i32 : BitVec 32 := 6#32
  let v2 : BitVec 32 := Scalar.remsi arg1 c6_i32
  let v917 : Index := Scalar.indexCast v2
  let c54_406 : Index := 54#32
  let c0_407 : Index := 0#32
  let c0_408 : Index := 0#32
  ![v917.toNat, 54, 0, 0]
def k0_off65 (i : grid0.Coords) : Fin 4 → Nat :=
  let arg1 : BitVec 32 := BitVec.ofNat 32 (i 1).val
  let c6_i32 : BitVec 32 := 6#32
  let v2 : BitVec 32 := Scalar.remsi arg1 c6_i32
  let v933 : Index := Scalar.indexCast v2
  let c55_413 : Index := 55#32
  let c0_414 : Index := 0#32
  let c0_415 : Index := 0#32
  ![v933.toNat, 55, 0, 0]
def k0_off66 (i : grid0.Coords) : Fin 4 → Nat :=
  let arg1 : BitVec 32 := BitVec.ofNat 32 (i 1).val
  let c6_i32 : BitVec 32 := 6#32
  let v2 : BitVec 32 := Scalar.remsi arg1 c6_i32
  let v949 : Index := Scalar.indexCast v2
  let c56_420 : Index := 56#32
  let c0_421 : Index := 0#32
  let c0_422 : Index := 0#32
  ![v949.toNat, 56, 0, 0]
def k0_off67 (i : grid0.Coords) : Fin 4 → Nat :=
  let arg1 : BitVec 32 := BitVec.ofNat 32 (i 1).val
  let c6_i32 : BitVec 32 := 6#32
  let v2 : BitVec 32 := Scalar.remsi arg1 c6_i32
  let v965 : Index := Scalar.indexCast v2
  let c57_427 : Index := 57#32
  let c0_428 : Index := 0#32
  let c0_429 : Index := 0#32
  ![v965.toNat, 57, 0, 0]
def k0_off68 (i : grid0.Coords) : Fin 4 → Nat :=
  let arg1 : BitVec 32 := BitVec.ofNat 32 (i 1).val
  let c6_i32 : BitVec 32 := 6#32
  let v2 : BitVec 32 := Scalar.remsi arg1 c6_i32
  let v981 : Index := Scalar.indexCast v2
  let c58_434 : Index := 58#32
  let c0_435 : Index := 0#32
  let c0_436 : Index := 0#32
  ![v981.toNat, 58, 0, 0]
def k0_off69 (i : grid0.Coords) : Fin 4 → Nat :=
  let arg1 : BitVec 32 := BitVec.ofNat 32 (i 1).val
  let c6_i32 : BitVec 32 := 6#32
  let v2 : BitVec 32 := Scalar.remsi arg1 c6_i32
  let v997 : Index := Scalar.indexCast v2
  let c59_441 : Index := 59#32
  let c0_442 : Index := 0#32
  let c0_443 : Index := 0#32
  ![v997.toNat, 59, 0, 0]
def k0_off70 (i : grid0.Coords) : Fin 4 → Nat :=
  let arg1 : BitVec 32 := BitVec.ofNat 32 (i 1).val
  let c6_i32 : BitVec 32 := 6#32
  let v2 : BitVec 32 := Scalar.remsi arg1 c6_i32
  let v1013 : Index := Scalar.indexCast v2
  let c60_448 : Index := 60#32
  let c0_449 : Index := 0#32
  let c0_450 : Index := 0#32
  ![v1013.toNat, 60, 0, 0]
def k0_off71 (i : grid0.Coords) : Fin 4 → Nat :=
  let arg1 : BitVec 32 := BitVec.ofNat 32 (i 1).val
  let c6_i32 : BitVec 32 := 6#32
  let v2 : BitVec 32 := Scalar.remsi arg1 c6_i32
  let v1029 : Index := Scalar.indexCast v2
  let c61_455 : Index := 61#32
  let c0_456 : Index := 0#32
  let c0_457 : Index := 0#32
  ![v1029.toNat, 61, 0, 0]
def k0_off72 (i : grid0.Coords) : Fin 4 → Nat :=
  let arg1 : BitVec 32 := BitVec.ofNat 32 (i 1).val
  let c6_i32 : BitVec 32 := 6#32
  let v2 : BitVec 32 := Scalar.remsi arg1 c6_i32
  let v1045 : Index := Scalar.indexCast v2
  let c62_462 : Index := 62#32
  let c0_463 : Index := 0#32
  let c0_464 : Index := 0#32
  ![v1045.toNat, 62, 0, 0]
def k0_off73 (i : grid0.Coords) : Fin 4 → Nat :=
  let arg1 : BitVec 32 := BitVec.ofNat 32 (i 1).val
  let c6_i32 : BitVec 32 := 6#32
  let v2 : BitVec 32 := Scalar.remsi arg1 c6_i32
  let v1061 : Index := Scalar.indexCast v2
  let c63_469 : Index := 63#32
  let c0_470 : Index := 0#32
  let c0_471 : Index := 0#32
  ![v1061.toNat, 63, 0, 0]
def k0_off74 (i : grid0.Coords) : Fin 3 → Nat :=
  let c48_i32 : BitVec 32 := 48#32
  let c0_i32_473 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32_472 : BitVec 32 := 256#32
  let v1065 : BitVec 32 := Scalar.muli v1 c256_i32_472
  ![48, 0, v1065.toNat]
def k0_off75 (i : grid0.Coords) : Fin 4 → Nat :=
  let arg1 : BitVec 32 := BitVec.ofNat 32 (i 1).val
  let c6_i32 : BitVec 32 := 6#32
  let v2 : BitVec 32 := Scalar.remsi arg1 c6_i32
  let c48_i32_474 : BitVec 32 := 48#32
  let c0_i32_475 : BitVec 32 := 0#32
  let c0_i32_476 : BitVec 32 := 0#32
  ![v2.toNat, 48, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S8192x64 : Shape := ⟨2, ![8192, 64]⟩
abbrev S64 : Shape := ⟨1, ![64]⟩
abbrev S64x64 : Shape := ⟨2, ![64, 64]⟩
abbrev S8192x64x1 : Shape := ⟨3, ![8192, 64, 1]⟩
abbrev S1x1x64 : Shape := ⟨3, ![1, 1, 64]⟩
abbrev S8192x64x64 : Shape := ⟨3, ![8192, 64, 64]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .i32⟩
  | .hbm, ⟨5, _⟩ => ⟨S8192x64x1, .f32⟩
  | .hbm, ⟨6, _⟩ => ⟨S1x1x64, .f32⟩
  | .hbm, ⟨7, _⟩ => ⟨S8192x64x64, .f32⟩
  | .hbm, ⟨8, _⟩ => ⟨S8192x64x64, .f32⟩
  | .hbm, ⟨9, _⟩ => ⟨S8192x64x64, .i1⟩
  | .hbm, ⟨10, _⟩ => ⟨S8192x64x1, .f32⟩
  | .hbm, ⟨11, _⟩ => ⟨S1x1x64, .f32⟩
  | .hbm, ⟨12, _⟩ => ⟨S8192x64x64, .f32⟩
  | .hbm, ⟨13, _⟩ => ⟨S8192x64x64, .f32⟩
  | .hbm, ⟨14, _⟩ => ⟨S8192x64x64, .i1⟩
  | .hbm, ⟨15, _⟩ => ⟨S8192x64x64, .i1⟩
  | .hbm, ⟨16, _⟩ => ⟨S8192x64x64, .i32⟩
  | .hbm, ⟨17, _⟩ => ⟨S_, .i1⟩
  | .hbm, ⟨18, _⟩ => ⟨S_, .i32⟩
  | .hbm, ⟨19, _⟩ => ⟨S8192x64, .i1⟩
  | .hbm, ⟨20, _⟩ => ⟨S8192x64, .i32⟩
  | .hbm, ⟨21, _⟩ => ⟨S8192x64x1, .i32⟩
  | .hbm, ⟨22, _⟩ => ⟨S1x1x64, .i32⟩
  | .hbm, ⟨23, _⟩ => ⟨S8192x64x64, .i32⟩
  | .hbm, ⟨24, _⟩ => ⟨S8192x64x64, .i32⟩
  | .hbm, ⟨25, _⟩ => ⟨S8192x64x64, .i32⟩
  | .hbm, ⟨26, _⟩ => ⟨S8192x64x64, .i32⟩
  | .hbm, ⟨27, _⟩ => ⟨S_, .i32⟩
  | .hbm, ⟨28, _⟩ => ⟨S8192x64x64, .i32⟩
  | .hbm, ⟨29, _⟩ => ⟨S8192x64x64, .i32⟩
  | .hbm, ⟨30, _⟩ => ⟨S8192x64x64, .f32⟩
  | .hbm, ⟨31, _⟩ => ⟨S_, .f32⟩
  | .hbm, ⟨32, _⟩ => ⟨S8192x64x64, .f32⟩
  | .hbm, ⟨33, _⟩ => ⟨S8192x64x64, .f32⟩
  | .hbm, ⟨34, _⟩ => ⟨S8192x64x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.KernelIdealSteps.lean ====
/-
  The kernel's memory steps, one rule for each kind of operation its body performs: loads of the staged operands,
  loads and stores of one row of a ring slot, the copy of one group of sixteen rows out to the result, and the wait
  that drains a whole slot. Every rule is over one assertion, `St`, whose two counters say how many of the sixty-four
  rows the slot already holds and how many of the four copies have been issued.
-/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Batch
public import Idealize.ShloMosaic.Lib.Tactic
public import Idealize.ShloMosaic.Lib.ValueLayout
public import Idealize.ShloMosaic.Lib.Pipeline.Kit

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- The resource algebra: the pipeline's staging cells beside the counters of the kernel's own copies. -/
abbrev UU (nD : Nat) (τ : Topo) : Type := UR sig nD τ × Counters

local notation "𝕄" => MT nD τ sig Unit (Elt F) ℕ (UU nD τ) ℕ

/-- The ring of six output slots. -/
abbrev oM : Memref sig .tc .vmem S6x64x64x256 .f32 := Memref.whole cc0_scratch0
/-- The result in HBM. -/
abbrev rM : Memref sig .tc .hbm S64x64x8192 .f32 := Memref.whole main_v5

/-- The buffer of the ring on core `c`. -/
abbrev OBuf (c : Dev nD) : Type := Buf (Elt F) (oM.view.loc (c : Thread nD τ))
/-- The buffer of the result on core `c`. -/
abbrev RBuf (c : Dev nD) : Type := Buf (Elt F) (rM.view.loc (c : Thread nD τ))

/-! ## Sets of elements -/

/-- Slot `s`'s rows from `lo` on. -/
def rows (s lo : ℕ) : Finset S6x64x64x256.Idx := Finset.univ.filter fun j => (j 0).val = s ∧ lo ≤ (j 1).val
/-- Slot `s`'s group `g` of sixteen rows. -/
def grp (s g : ℕ) : Finset S6x64x64x256.Idx := Finset.univ.filter fun j => (j 0).val = s ∧ 16 * g ≤ (j 1).val ∧ (j 1).val < 16 * (g + 1)
/-- The rows from `lo` on of the result's chunk of 256 columns from `b`. -/
def cols (b lo : ℕ) : Finset S64x64x8192.Idx := Finset.univ.filter fun j => (b ≤ (j 2).val ∧ (j 2).val < b + 256) ∧ lo ≤ (j 0).val
/-- The rows of group `g` of that chunk. -/
def blk (b g : ℕ) : Finset S64x64x8192.Idx :=
  Finset.univ.filter fun j => (b ≤ (j 2).val ∧ (j 2).val < b + 256) ∧ 16 * g ≤ (j 0).val ∧ (j 0).val < 16 * (g + 1)

/-- What it is to lie in a slot's rows from `lo` on. -/
theorem mem_rows {s lo : ℕ} {j : S6x64x64x256.Idx} : j ∈ rows s lo ↔ (j 0).val = s ∧ lo ≤ (j 1).val := by simp [rows]
/-- What it is to lie in a group of a slot. -/
theorem mem_grp {s g : ℕ} {j : S6x64x64x256.Idx} : j ∈ grp s g ↔ (j 0).val = s ∧ 16 * g ≤ (j 1).val ∧ (j 1).val < 16 * (g + 1) := by
  simp [grp]
/-- What it is to lie in a chunk's rows from `lo` on. -/
theorem mem_cols {b lo : ℕ} {j : S64x64x8192.Idx} : j ∈ cols b lo ↔ (b ≤ (j 2).val ∧ (j 2).val < b + 256) ∧ lo ≤ (j 0).val := by
  simp [cols]
/-- What it is to lie in a group of a chunk. -/
theorem mem_blk {b g : ℕ} {j : S64x64x8192.Idx} :
    j ∈ blk b g ↔ (b ≤ (j 2).val ∧ (j 2).val < b + 256) ∧ 16 * g ≤ (j 0).val ∧ (j 0).val < 16 * (g + 1) := by simp [blk]

/-- A slot's remaining rows are its next group and the rows after it. -/
theorem rows_split (s g : ℕ) : rows s (16 * g) = grp s g ∪ rows s (16 * (g + 1)) := by
  ext j; rw [Finset.mem_union, mem_rows, mem_rows, mem_grp]; omega
/-- A slot's group is none of the rows after it. -/
theorem rows_disj (s g : ℕ) : Disjoint (grp s g) (rows s (16 * (g + 1))) := by
  rw [Finset.disjoint_left]; intro j; rw [mem_rows, mem_grp]; omega
/-- A chunk's remaining rows are its next group and the rows after it. -/
theorem cols_split (b g : ℕ) : cols b (16 * g) = blk b g ∪ cols b (16 * (g + 1)) := by
  ext j; rw [Finset.mem_union, mem_cols, mem_cols, mem_blk]; omega
/-- A chunk's group is none of the rows after it. -/
theorem cols_disj (b g : ℕ) : Disjoint (blk b g) (cols b (16 * (g + 1))) := by
  rw [Finset.disjoint_left]; intro j; rw [mem_cols, mem_blk]; omega

/-- One row of a slot, as the kernel addresses it. -/
theorem mem_rowRect {s n : ℕ} {inb} {j : S6x64x64x256.Idx} :
    j ∈ (Rect.unit (s := S6x64x64x256) ![s, n, 0, 0] S1x1x64x256.size inb).set ↔ (j 0).val = s ∧ (j 1).val = n := by
  rw [Rect.mem_set_unit]
  have h2 : (j 2).val < 64 := (j 2).isLt
  have h3 : (j 3).val < 256 := (j 3).isLt
  constructor
  · intro h
    have h0 : s ≤ (j 0).val ∧ (j 0).val < s + 1 := h 0
    have h1 : n ≤ (j 1).val ∧ (j 1).val < n + 1 := h 1
    omega
  · rintro ⟨h0, h1⟩ a
    fin_cases a
    · show s ≤ (j 0).val ∧ (j 0).val < s + 1; omega
    · show n ≤ (j 1).val ∧ (j 1).val < n + 1; omega
    · show 0 ≤ (j 2).val ∧ (j 2).val < 0 + 64; omega
    · show 0 ≤ (j 3).val ∧ (j 3).val < 0 + 256; omega

/-- The sixteen rows a copy reads. -/
theorem set_src {s g : ℕ} {inb} :
    ((oM.slice (Rect.unit (s := S6x64x64x256) ![s, 16 * g, 0, 0] S1x16x64x256.size inb) (fun _ => rfl)).squeeze S16x64x256
      squeezes_S1x16x64x256_S16x64x256).view.set = grp s g := by
  refine (View.set_reshape _ _).trans ((View.set_slice_whole _ _).trans ?_)
  ext j
  have h2 : (j 2).val < 64 := (j 2).isLt
  have h3 : (j 3).val < 256 := (j 3).isLt
  rw [mem_grp, Rect.mem_set_unit]
  constructor
  · intro h
    have h0 : s ≤ (j 0).val ∧ (j 0).val < s + 1 := h 0
    have h1 : 16 * g ≤ (j 1).val ∧ (j 1).val < 16 * g + 16 := h 1
    omega
  · rintro ⟨h0, h1⟩ a
    fin_cases a
    · show s ≤ (j 0).val ∧ (j 0).val < s + 1; omega
    · show 16 * g ≤ (j 1).val ∧ (j 1).val < 16 * g + 16; omega
    · show 0 ≤ (j 2).val ∧ (j 2).val < 0 + 64; omega
    · show 0 ≤ (j 3).val ∧ (j 3).val < 0 + 256; omega

/-- The block of the result a copy writes. -/
theorem set_dst {b g : ℕ} {inb} :
    (rM.slice (Rect.unit (s := S64x64x8192) ![16 * g, 0, b] S16x64x256.size inb) (fun _ => rfl)).view.set = blk b g := by
  refine (View.set_slice_whole _ _).trans ?_
  ext j
  have h1 : (j 1).val < 64 := (j 1).isLt
  rw [mem_blk, Rect.mem_set_unit]
  constructor
  · intro h
    have h0 : 16 * g ≤ (j 0).val ∧ (j 0).val < 16 * g + 16 := h 0
    have h1 : b ≤ (j 2).val ∧ (j 2).val < b + 256 := h 2
    omega
  · rintro ⟨h0, h2⟩ a
    fin_cases a
    · show 16 * g ≤ (j 0).val ∧ (j 0).val < 16 * g + 16; omega
    · show 0 ≤ (j 1).val ∧ (j 1).val < 0 + 64; omega
    · show b ≤ (j 2).val ∧ (j 2).val < b + 256; omega

/-! ## The values -/

/-- Row `n` of the staged block of `x`. -/
def rowOf (X : S64x256.Idx → Elt F .f32) (n : Fin 64) : Vec F S1x256 .f32 := fun j => X (ix2 n (j 1))

/-- The sixty-four by 256 values the kernel computes for one row of `x`. -/
def rowV (v12 : Vec F S64x64 .f32) (v19 v21 : Vec F S64x256 .f32) (v23 : Vec F S1x256 .f32) : Vec F S1x1x64x256 .f32 :=
  k0_pay5 (k0_pay4 v12 v19 v21 v23)

/-- What a slot holds once all its rows are stored. -/
def slotV (X : S64x256.Idx → Elt F .f32) (v12 : Vec F S64x64 .f32) (v19 v21 : Vec F S64x256 .f32) (j : S6x64x64x256.Idx) : Elt F .f32 :=
  rowV v12 v19 v21 (rowOf X (j 1)) (ix4 (0 : Fin 1) (0 : Fin 1) (j 2) (j 3))

/-- A copy's bytes, as its semaphore counts them. -/
abbrev N : ℕ :=
  (rM.slice (Rect.unit (s := S64x64x8192) ![0, 0, 0] S16x64x256.size (by decide)) (fun _ => rfl)).view.amount (SemLoc.dma (sig := sig) 5)

/-- Slot `s`'s semaphore. -/
abbrev dsem (s : Fin 6) : DmaSem sig := ⟨5 + s.val, by have := s.isLt; show 5 + s.val < 11; omega⟩

/-- What the copy of group `g` delivers: the result's block at its final contents, and the slot's rows back. -/
def Dlv (c : Dev nD) (G : RBuf (F := F) c) (s : ℕ) (b : ℕ) (g : Fin 4) : sProp 𝕄 :=
  iprop((rM.view.loc (c : Thread nD τ) ↦[blk b g.val]{fullShare} G) ∗ ∃ f : OBuf (F := F) c, oM.view.loc (c : Thread nD τ) ↦[grp s g.val]{fullShare} f)

/-- What a copy delivers can be kept by the transfer until the wait. -/
instance (c : Dev nD) (G : RBuf (F := F) c) (s : ℕ) (b : ℕ) (g : Fin 4) : BI.Storable (upEmb : UEmb _ 𝕄) (Dlv c G s b g) := by
  unfold Dlv; infer_instance

/-- The copies of one point on slot `s`'s semaphore, `k` of the four issued. -/
abbrev Bt (c : Dev nD) (G : RBuf (F := F) c) (s : Fin 6) (b k : ℕ) : sProp 𝕄 :=
  Transfers.Batch (countersEmb (U := UU nD τ)) (c : Thread nD τ) (.dma (dsem s)) () N (Dlv c G s.val b) k 0

/-! ## The assertion -/

section Steps

variable (c : Dev nD) (M0 M1 M2 : Memref sig .tc .vmem S64x256 .f32) (M3 : Memref sig .tc .vmem S64x64 .f32)
variable (X0 X1 X2 : S64x256.Idx → Elt F .f32) (X3 : S64x64.Idx → Elt F .f32)
variable (G : RBuf (F := F) c) (s : Fin 6) (b : ℕ)

/-- The staged operands on core `c`. -/
def Ops : sProp 𝕄 :=
  iprop(owns (c : Thread nD τ) M0 fullShare X0 ∗ owns (c : Thread nD τ) M1 fullShare X1 ∗ owns (c : Thread nD τ) M2 fullShare X2
    ∗ owns (c : Thread nD τ) M3 fullShare X3)

/-- The slot from group `j` on, its rows below `n` at their values. -/
def Slot (n j : ℕ) : sProp 𝕄 :=
  iprop(∃ f : OBuf (F := F) c, ⌜∀ i : S6x64x64x256.Idx, (i 0).val = s.val → 16 * j ≤ (i 1).val → (i 1).val < n → f i = slotV X0 X3 X1 X2 i⌝
    ∗ oM.view.loc (c : Thread nD τ) ↦[rows s.val (16 * j)]{fullShare} f)

/-- In the middle of a point: the operands, the slot with its rows below `n` stored, the first `j` copies issued, and
    the rest of the result's chunk. -/
def St (n j : ℕ) : sProp 𝕄 :=
  iprop(Ops c M0 M1 M2 M3 X0 X1 X2 X3 ∗ Slot c X0 X1 X2 X3 s n j
    ∗ (∃ f : RBuf (F := F) c, rM.view.loc (c : Thread nD τ) ↦[cols b (16 * j)]{fullShare} f) ∗ Bt c G s b j)

variable {c M0 M1 M2 M3 X0 X1 X2 X3 G s b}

/-- A load of a memref owned whole: it reads the contents. -/
theorem ld_owns {α : Type} {R : sProp 𝕄} {Q : α → sProp 𝕄} {S : Shape} {e : EltTy} {M : Memref sig .tc .vmem S e} {X : S.Idx → Elt F e} {r : Rect S} {hl : M.view.LoadsAt r.toLoadRect}
    {k : (r.toLoadRect.shape.Idx → Elt F e) → Prog (TpuEff nD τ sig (Elt F) Λ₀ .tc) α}
    (h : iprop(owns (c : Thread nD τ) M fullShare X ∗ R) ⊢ wp frame (wpE (defs₀ (F := F)) Variants.none (c : Thread nD τ) none) Set.univ (k fun j => X (r.emb j)) Q) :
    iprop(owns (c : Thread nD τ) M fullShare X ∗ R) ⊢ wp frame (wpE (defs₀ (F := F)) Variants.none (c : Thread nD τ) none) Set.univ (Prog.lift (.load M r.toLoadRect hl) >>= k) Q := by
  refine BIBase.Entails.trans ?_ (show wp frame (wpE (defs₀ (F := F)) Variants.none (c : Thread nD τ) none) Set.univ (.op (.load M r.toLoadRect hl) k) Q ⊢ _ from .rfl)
  iintro ⟨H, HR⟩
  unfold owns
  icases H with ⟨%f, %hf, H⟩
  iapply (wp_load Variants.none (c : Thread nD τ) none Set.univ (View.setOn_subset_set _ _)) $$ [H]
  · iexact H
  iintro H
  have e : M.view.readAt (Elt F) r.toLoadRect f = fun j => X (r.emb j) := by subst hf; rfl
  rw [e]
  iapply h
  isplitl [H]
  · unfold owns; iexists f; isplitr; · ipureintro; exact hf
    iexact H
  iexact HR

/-- A load of row `n` of the staged block of `x`. -/
theorem st_row {α : Type} {R : sProp 𝕄} {Q : α → sProp 𝕄} {n j m : ℕ} {off : Fin 2 → ℕ} {inb} {hl} {k : Vec F S1x256 .f32 → Prog (TpuEff nD τ sig (Elt F) Λ₀ .tc) α}
    (ho : off = ![m, 0]) (hm : m < 64)
    (h : iprop(St c M0 M1 M2 M3 X0 X1 X2 X3 G s b n j ∗ R) ⊢ wp frame (wpE (defs₀ (F := F)) Variants.none (c : Thread nD τ) none) Set.univ (k (rowOf X0 ⟨m, hm⟩)) Q) :
    iprop(St c M0 M1 M2 M3 X0 X1 X2 X3 G s b n j ∗ R)
      ⊢ wp frame (wpE (defs₀ (F := F)) Variants.none (c : Thread nD τ) none) Set.univ (Prog.lift (.load M0 (Rect.unit (s := S64x256) off S1x256.size inb).toLoadRect hl) >>= k) Q := by
  subst ho
  have e : (fun x : S1x256.Idx => X0 ((Rect.unit (s := S64x256) ![m, 0] S1x256.size inb).emb x)) = rowOf X0 ⟨m, hm⟩ := by
    funext x
    refine congrArg X0 (funext fun a => Fin.ext ?_)
    have h0 : (x 0).val < 1 := (x 0).isLt
    fin_cases a
    · show m + 1 * (x 0).val = m; omega
    · show 0 + 1 * (x 1).val = (x 1).val; omega
  unfold St Ops at h ⊢
  refine (show _ ⊢ iprop(owns (c : Thread nD τ) M0 fullShare X0 ∗ (((owns (c : Thread nD τ) M1 fullShare X1 ∗ owns (c : Thread nD τ) M2 fullShare X2
    ∗ owns (c : Thread nD τ) M3 fullShare X3) ∗ Slot c X0 X1 X2 X3 s n j
    ∗ (∃ f : RBuf (F := F) c, rM.view.loc (c : Thread nD τ) ↦[cols b (16 * j)]{fullShare} f) ∗ Bt c G s b j) ∗ R)) from ?_).trans (ld_owns ?_)
  · iintro ⟨⟨⟨H0, H1⟩, H2⟩, HR⟩
    isplitl [H0]; · iexact H0
    isplitr [HR]; swap; · iexact HR
    isplitl [H1]; · iexact H1
    iexact H2
  · refine (show _ ⊢ _ from ?_).trans (h.trans (Entails.of_eq (congrArg (fun v => wp frame (wpE (defs₀ (F := F)) Variants.none (c : Thread nD τ) none) Set.univ (k v) Q) e.symm)))
    iintro ⟨H0, ⟨H1, H2⟩, HR⟩
    isplitr [HR]; swap; · iexact HR
    isplitr [H2]; swap; · iexact H2
    isplitl [H0]; · iexact H0
    iexact H1

/-- A load of a row of the slot: its value is unused. -/
theorem st_ldo {α : Type} {R : sProp 𝕄} {Q : α → sProp 𝕄} {n j r : ℕ} {off : Fin 4 → ℕ} {inb} {hl} {k : Vec F S1x1x64x256 .f32 → Prog (TpuEff nD τ sig (Elt F) Λ₀ .tc) α}
    (ho : off = ![s.val, r, 0, 0]) (hr : 16 * j ≤ r)
    (h : ∀ v, iprop(St c M0 M1 M2 M3 X0 X1 X2 X3 G s b n j ∗ R) ⊢ wp frame (wpE (defs₀ (F := F)) Variants.none (c : Thread nD τ) none) Set.univ (k v) Q) :
    iprop(St c M0 M1 M2 M3 X0 X1 X2 X3 G s b n j ∗ R)
      ⊢ wp frame (wpE (defs₀ (F := F)) Variants.none (c : Thread nD τ) none) Set.univ (Prog.lift (.load oM (Rect.unit (s := S6x64x64x256) off S1x1x64x256.size inb).toLoadRect hl) >>= k) Q := by
  subst ho
  refine BIBase.Entails.trans ?_ (show wp frame (wpE (defs₀ (F := F)) Variants.none (c : Thread nD τ) none) Set.univ (.op (.load oM _ hl) k) Q ⊢ _ from .rfl)
  unfold St Slot at h ⊢
  have hsub : (oM.view.setOn (Rect.unit (s := S6x64x64x256) ![s.val, r, 0, 0] S1x1x64x256.size inb).toLoadRect.set : Finset S6x64x64x256.Idx) ⊆ rows s.val (16 * j) := by
    intro i hi
    have hi' := mem_rowRect.mp ((View.mem_setOn (v := View.whole cc0_scratch0) (x := i)).mp hi)
    rw [mem_rows]; omega
  iintro ⟨⟨HO, ⟨%f, %hf, H⟩, HT⟩, HR⟩
  iapply (wp_load Variants.none (c : Thread nD τ) none Set.univ (S := rows s.val (16 * j)) hsub) $$ [H]
  · iexact H
  · iintro H
    iapply (h _)
    isplitr [HR]; swap; · iexact HR
    isplitl [HO]; · iexact HO
    isplitr [HT]; swap; · iexact HT
    iexists f; isplitr; · ipureintro; exact hf
    iexact H

/-- A store of the next row of the slot. -/
theorem st_sto {α : Type} {R : sProp 𝕄} {Q : α → sProp 𝕄} {n j : ℕ} {off : Fin 4 → ℕ} {inb} {pay : Vec F S1x1x64x256 .f32} {hx hm} {k : PUnit → Prog (TpuEff nD τ sig (Elt F) Λ₀ .tc) α}
    (ho : off = ![s.val, n, 0, 0]) (hn : n < 64) (hr : 16 * j ≤ n) (hp : pay = rowV X3 X1 X2 (rowOf X0 ⟨n, hn⟩))
    (h : iprop(St c M0 M1 M2 M3 X0 X1 X2 X3 G s b (n + 1) j ∗ R) ⊢ wp frame (wpE (defs₀ (F := F)) Variants.none (c : Thread nD τ) none) Set.univ (k ⟨⟩) Q) :
    iprop(St c M0 M1 M2 M3 X0 X1 X2 X3 G s b n j ∗ R)
      ⊢ wp frame (wpE (defs₀ (F := F)) Variants.none (c : Thread nD τ) none) Set.univ (Prog.lift (.store oM (Rect.unit (s := S6x64x64x256) off S1x1x64x256.size inb) pay Finset.univ hx hm) >>= k) Q := by
  subst ho hp
  refine BIBase.Entails.trans ?_ (show wp frame (wpE (defs₀ (F := F)) Variants.none (c : Thread nD τ) none) Set.univ (.op (.store oM _ _ _ hx hm) k) Q ⊢ _ from .rfl)
  unfold St Slot at h ⊢
  iintro ⟨⟨HO, ⟨%f, %hf, H⟩, HT⟩, HR⟩
  have hset : ∀ i : S6x64x64x256.Idx, i ∈ ((oM.access (Rect.unit (s := S6x64x64x256) ![s.val, n, 0, 0] S1x1x64x256.size inb)).setOn Finset.univ : Finset S6x64x64x256.Idx)
      ↔ (i 0).val = s.val ∧ (i 1).val = n := by
    intro i
    rw [← mem_rowRect (inb := inb), ← View.set_slice_whole cc0_scratch0]; exact Iff.rfl
  have hsub : ((oM.access (Rect.unit (s := S6x64x64x256) ![s.val, n, 0, 0] S1x1x64x256.size inb)).setOn Finset.univ : Finset S6x64x64x256.Idx)
      ⊆ rows s.val (16 * j) := by
    intro i hi
    have := (hset i).mp hi
    rw [mem_rows]; omega
  iapply (wp_store Variants.none (c : Thread nD τ) none Set.univ (S := rows s.val (16 * j)) hsub) $$ [H]
  · iexact H
  · iintro H
    iapply h
    isplitr [HR]; swap; · iexact HR
    isplitl [HO]; · iexact HO
    isplitr [HT]; swap; · iexact HT
    iexists _; isplitr; swap; · iexact H
    ipureintro
    intro i h0 h1 h2
    by_cases hi : (i 1).val = n
    · obtain ⟨y, hy⟩ := View.exists_emb_of_mem_set (oM.access (Rect.unit (s := S6x64x64x256) ![s.val, n, 0, 0] S1x1x64x256.size inb))
        ((hset i).mpr ⟨h0, hi⟩)
      have h2 : (i 2).val = (y 2).val := by rw [← hy]; show 0 + 1 * (y 2).val = _; omega
      have h3 : (i 3).val = (y 3).val := by rw [← hy]; show 0 + 1 * (y 3).val = _; omega
      have hw := View.write_emb_of_mem (v := oM.access (Rect.unit (s := S6x64x64x256) ![s.val, n, 0, 0] S1x1x64x256.size inb)) f
        (rowV X3 X1 X2 (rowOf X0 ⟨n, hn⟩)) (Finset.mem_univ y)
      rw [hy] at hw
      refine hw.trans ?_
      unfold slotV
      rw [show i 1 = ⟨n, hn⟩ from Fin.ext hi]
      refine congrArg (rowV X3 X1 X2 (rowOf X0 ⟨n, hn⟩)) (funext fun a => Fin.ext ?_)
      have y0 : (y 0).val < 1 := (y 0).isLt
      have y1 : (y 1).val < 1 := (y 1).isLt
      fin_cases a
      · show (y 0).val = 0; omega
      · show (y 1).val = 0; omega
      · exact h2.symm
      · exact h3.symm
    · rw [View.write_of_not_mem]
      · exact hf i h0 h1 (by omega)
      · intro hh; exact hi ((hset i).mp hh).2

/-- The result's final contents on the chunk from `b`: row `f`, channel `d`, column `q` is what the slot's row `f` holds. -/
def Final (c : Dev nD) (X0 X1 X2 : S64x256.Idx → Elt F .f32) (X3 : S64x64.Idx → Elt F .f32) (G : RBuf (F := F) c) (b : ℕ) : Prop :=
  ∀ (i : S64x64x8192.Idx) (q : Fin 256), (i 2).val = b + q.val →
    G i = rowV X3 X1 X2 (rowOf X0 (i 0)) (ix4 (0 : Fin 1) (0 : Fin 1) (i 1) q)

/-- An index of three coordinates, listed. -/
theorem eta3 {a b c : ℕ} (x : (⟨3, ![a, b, c]⟩ : Shape).Idx) : x = ix3 (x 0) (x 1) (x 2) := by
  funext i; fin_cases i <;> rfl

/-- The copy of group `j`: its sixteen rows, all stored, leave for the result. -/
theorem st_dma {α : Type} {R : sProp 𝕄} {Q : α → sProp 𝕄} {n j : ℕ} {offs : Fin 4 → ℕ} {offd : Fin 3 → ℕ} {inbs inbd} {sm : DmaSem sig} {hs1 hs2 hs3}
    {k : PUnit → Prog (TpuEff nD τ sig (Elt F) Λ₀ .tc) α} (hG : Final c X0 X1 X2 X3 G b)
    (hos : offs = ![s.val, 16 * j, 0, 0]) (hod : offd = ![16 * j, 0, b]) (hsm : sm = dsem s) (hn : n = 16 * (j + 1)) (hj : j < 4)
    (h : iprop(St c M0 M1 M2 M3 X0 X1 X2 X3 G s b n (j + 1) ∗ R) ⊢ wp frame (wpE (defs₀ (F := F)) Variants.none (c : Thread nD τ) none) Set.univ (k ⟨⟩) Q) :
    iprop(St c M0 M1 M2 M3 X0 X1 X2 X3 G s b n j ∗ R)
      ⊢ wp frame (wpE (defs₀ (F := F)) Variants.none (c : Thread nD τ) none) Set.univ (Prog.lift (.enqueueDma
          ((oM.slice (Rect.unit (s := S6x64x64x256) offs S1x16x64x256.size inbs) (fun _ => rfl)).squeeze S16x64x256 squeezes_S1x16x64x256_S16x64x256)
          (.here (rM.slice (Rect.unit (s := S64x64x8192) offd S16x64x256.size inbd) (fun _ => rfl))) (.dma sm) hs1 hs2 hs3) >>= k) Q := by
  subst hos hod hsm hn
  refine BIBase.Entails.trans ?_ (show wp frame (wpE (defs₀ (F := F)) Variants.none (c : Thread nD τ) none) Set.univ (.op (.enqueueDma _ _ _ hs1 hs2 hs3) k) Q ⊢ _ from .rfl)
  unfold St Slot at h ⊢
  iintro ⟨⟨HO, ⟨%f, %hf, H⟩, ⟨%f', H'⟩, HB⟩, HR⟩
  rw [rows_split, cols_split]
  ihave H := (pointsTo_union (rows_disj s.val j)).1 $$ H
  icases H with ⟨Hs, H⟩
  ihave H' := (pointsTo_union (cols_disj b j)).1 $$ H'
  icases H' with ⟨Hd, H'⟩
  have hD : iprop((rM.view.loc (c : Thread nD τ) ↦[blk b j]{fullShare}
        ((rM.slice (Rect.unit (s := S64x64x8192) ![16 * j, 0, b] S16x64x256.size inbd) (fun _ => rfl)).view.write (Elt F) f'
          ((ReadAs.same : ReadAs (Elt F) S16x64x256 .f32 S16x64x256 .f32).apply
            (((oM.slice (Rect.unit (s := S6x64x64x256) ![s.val, 16 * j, 0, 0] S1x16x64x256.size inbs) (fun _ => rfl)).squeeze S16x64x256
              squeezes_S1x16x64x256_S16x64x256).view.read (Elt F) f)) Finset.univ))
      ∗ (oM.view.loc (c : Thread nD τ) ↦[((oM.slice (Rect.unit (s := S6x64x64x256) ![s.val, 16 * j, 0, 0] S1x16x64x256.size inbs) (fun _ => rfl)).squeeze S16x64x256
              squeezes_S1x16x64x256_S16x64x256).view.set]{fullShare} f)) ⊢ (Dlv c G s.val b ⟨j, hj⟩ : sProp 𝕄) := by
    rw [pointsTo_congr (g := G)]
    · unfold Dlv
      iintro ⟨Hd, Hs⟩
      isplitl [Hd]; · iexact Hd
      iexists f
      rw [set_src]
      iexact Hs
    · intro i hi
      rw [← set_dst (inb := inbd)] at hi
      obtain ⟨x, rfl⟩ := View.exists_emb_of_mem_set _ hi
      rw [View.write_emb_of_mem _ _ (Finset.mem_univ x)]
      have hx0 : (x 0).val < 16 := (x 0).isLt
      have hx2 : (x 2).val < 256 := (x 2).isLt
      rw [hG _ (x 2) (by show b + 1 * (x 2).val = b + (x 2).val; omega)]
      have e4 : Shape.reshapeEquiv squeezes_S1x16x64x256_S16x64x256.numel_eq x = ix4 (⟨0, Nat.one_pos⟩ : Fin 1) (x 0) (x 1) (x 2) :=
        (congrArg _ (eta3 x)).trans (reshapeEquiv_ix3_1abc _ (x 0) (x 1) (x 2))
      have ho : ∀ y : S1x16x64x256.Idx, y = ix4 (⟨0, Nat.one_pos⟩ : Fin 1) (x 0) (x 1) (x 2) →
          f ((oM.slice (Rect.unit (s := S6x64x64x256) ![s.val, 16 * j, 0, 0] S1x16x64x256.size inbs) (fun _ => rfl)).view.emb y)
            = rowV X3 X1 X2 (rowOf X0 ((rM.slice (Rect.unit (s := S64x64x8192) ![16 * j, 0, b] S16x64x256.size inbd) (fun _ => rfl)).view.emb x 0))
                (ix4 (0 : Fin 1) (0 : Fin 1) ((rM.slice (Rect.unit (s := S64x64x8192) ![16 * j, 0, b] S16x64x256.size inbd) (fun _ => rfl)).view.emb x 1) (x 2)) := by
        intro y hy
        rw [hf _ (by subst hy; rfl) (by subst hy; exact Nat.le_add_right _ _) (by subst hy; show 16 * j + 1 * (x 0).val < _; omega)]
        subst hy
        unfold slotV
        refine congrArg₂ (fun m i => rowV X3 X1 X2 (rowOf X0 m) i) (Fin.ext rfl) (funext fun a => Fin.ext ?_)
        fin_cases a
        · rfl
        · rfl
        · rfl
        · show 0 + 1 * (x 2).val = (x 2).val; omega
      exact ho _ e4
  iapply (Transfers.wp_dmaBatch (countersEmb (U := UU nD τ)) Variants.none (c : Thread nD τ) none
    (src := ((oM.slice (Rect.unit (s := S6x64x64x256) ![s.val, 16 * j, 0, 0] S1x16x64x256.size inbs) (fun _ => rfl)).squeeze S16x64x256 squeezes_S1x16x64x256_S16x64x256))
    (dst := rM.slice (Rect.unit (s := S64x64x8192) ![16 * j, 0, b] S16x64x256.size inbd) (fun _ => rfl))
    (Sd := blk b j) (q := fullShare) (fs := f) (fd := f') (D := Dlv c G s.val b) (j := j) (u := 0)
    () N rfl (subset_of_eq set_dst) hj (Nat.zero_le _) hD) $$ [Hs Hd HB]
  · isplitl [Hs]; · rw [set_src]; iexact Hs
    isplitl [Hd]; · iexact Hd
    iexact HB
  iintro HB
  iapply h
  isplitr [HR]; swap; · iexact HR
  isplitl [HO]; · iexact HO
  isplitl [H]
  · iexists f; isplitr; swap; · iexact H
    ipureintro
    intro i h0 h1 h2
    exact hf i h0 (by omega) h2
  isplitl [H']; · iexists f'; iexact H'
  iexact HB

/-- Two parts of one buffer, each at some contents, make one. -/
theorem join_ex {ℓ : Loc nD τ sig} {I J : Finset (Idx ℓ)} (h : Disjoint I J) :
    iprop((∃ f : Buf (Elt F) ℓ, ℓ ↦[I]{fullShare} f) ∗ (∃ f : Buf (Elt F) ℓ, ℓ ↦[J]{fullShare} f))
      ⊢ (iprop(∃ f : Buf (Elt F) ℓ, ℓ ↦[I ∪ J]{fullShare} f) : sProp 𝕄) := by
  iintro ⟨⟨%f, H⟩, ⟨%g, H'⟩⟩
  iexists _
  iapply (pointsTo_join h)
  isplitl [H]; · iexact H
  iexact H'

/-- A slot's last group is its last sixteen rows. -/
theorem rows_last (s : ℕ) : rows s (16 * 3) = grp s 3 := by
  ext j; rw [mem_rows, mem_grp]; have : (j 1).val < 64 := (j 1).isLt; omega
/-- A chunk's last group is its last sixteen rows. -/
theorem cols_last (b : ℕ) : cols b (16 * 3) = blk b 3 := by
  ext j; rw [mem_cols, mem_blk]; have : (j 0).val < 64 := (j 0).isLt; omega

/-- The four deliveries of a point are its slot, and its chunk of the result at the final contents. -/
theorem deliveries : (bigSep Finset.univ (Dlv c G s.val b) : sProp 𝕄)
    ⊢ iprop((∃ f : OBuf (F := F) c, oM.view.loc (c : Thread nD τ) ↦[rows s.val 0]{fullShare} f)
        ∗ (rM.view.loc (c : Thread nD τ) ↦[cols b 0]{fullShare} G)) := by
  rw [bigSep_univ_eq_bigSepL [(0 : Fin 4), (1 : Fin 4), (2 : Fin 4), (3 : Fin 4)] (by decide) (by decide)]
  refine (show _ ⊢ iprop(Dlv c G s.val b 0 ∗ Dlv c G s.val b 1 ∗ Dlv c G s.val b 2 ∗ Dlv c G s.val b 3) from .rfl).trans ?_
  unfold Dlv
  iintro ⟨⟨Hr0, Ho0⟩, ⟨Hr1, Ho1⟩, ⟨Hr2, Ho2⟩, ⟨Hr3, Ho3⟩⟩
  isplitl [Ho0 Ho1 Ho2 Ho3]
  · rw [show rows s.val 0 = rows s.val (16 * 0) from rfl, rows_split s.val 0]
    iapply (join_ex (rows_disj s.val 0)); isplitl [Ho0]; · iexact Ho0
    rw [show 16 * (0 + 1) = 16 * 1 from rfl, rows_split s.val 1]
    iapply (join_ex (rows_disj s.val 1)); isplitl [Ho1]; · iexact Ho1
    rw [show 16 * (1 + 1) = 16 * 2 from rfl, rows_split s.val 2]
    iapply (join_ex (rows_disj s.val 2)); isplitl [Ho2]; · iexact Ho2
    rw [show 16 * (2 + 1) = 16 * 3 from rfl, rows_last]
    iexact Ho3
  · rw [show cols b 0 = cols b (16 * 0) from rfl, cols_split b 0]
    iapply (pointsTo_union (cols_disj b 0)).2; isplitl [Hr0]; · iexact Hr0
    rw [show 16 * (0 + 1) = 16 * 1 from rfl, cols_split b 1]
    iapply (pointsTo_union (cols_disj b 1)).2; isplitl [Hr1]; · iexact Hr1
    rw [show 16 * (1 + 1) = 16 * 2 from rfl, cols_split b 2]
    iapply (pointsTo_union (cols_disj b 2)).2; isplitl [Hr2]; · iexact Hr2
    rw [show 16 * (2 + 1) = 16 * 3 from rfl, cols_last]
    iexact Hr3

/-- The wait that drains slot `s`: the four copies have landed. -/
theorem wait_slot {α : Type} {R : sProp 𝕄} {Q : α → sProp 𝕄} {offw offw' : Fin 4 → ℕ} {inbw inbw'} {sm : DmaSem sig} {hs1 hs2} {W : Waits sig Unit}
    {k : PUnit → Prog (TpuEff nD τ sig (Elt F) Λ₀ .tc) α} (hsm : sm = dsem s)
    (h : ∀ W, iprop(((∃ f : OBuf (F := F) c, oM.view.loc (c : Thread nD τ) ↦[rows s.val 0]{fullShare} f)
        ∗ (rM.view.loc (c : Thread nD τ) ↦[cols b 0]{fullShare} G) ∗ semVal ((c : Thread nD τ), SemLoc.dma (dsem s)) 0
        ∗ owes (c : Thread nD τ) 0 W) ∗ R) ⊢ wp frame (wpE (defs₀ (F := F)) Variants.none (c : Thread nD τ) none) Set.univ (k ⟨⟩) Q) :
    iprop(Bt c G s b 4 ∗ owes (c : Thread nD τ) 0 W ∗ R)
      ⊢ wp frame (wpE (defs₀ (F := F)) Variants.none (c : Thread nD τ) none) Set.univ (Prog.lift (.waitDma2 sm
          ((oM.slice (Rect.unit (s := S6x64x64x256) offw S1x64x64x256.size inbw) (fun _ => rfl)).squeeze S64x64x256 squeezes_S1x64x64x256_S64x64x256)
          ((oM.slice (Rect.unit (s := S6x64x64x256) offw' S1x64x64x256.size inbw') (fun _ => rfl)).squeeze S64x64x256 squeezes_S1x64x64x256_S64x64x256)
          hs1 hs2) >>= k) Q := by
  subst hsm
  refine BIBase.Entails.trans ?_ (show wp frame (wpE (defs₀ (F := F)) Variants.none (c : Thread nD τ) none) Set.univ (.op (.waitDma2 _ _ _ hs1 hs2) k) Q ⊢ _ from .rfl)
  iintro ⟨HB, HO, HR⟩
  iapply (Transfers.wp_waitBatchAll (countersEmb (U := UU nD τ)) Variants.none (c : Thread nD τ) none () (N := N) (J := N * 4) rfl (by decide)
    (D := Dlv c G s.val b) (u := 0) (by decide)) $$ [HB HO]
  · isplitl [HB]; · iexact HB
    iexact HO
  iintro ⟨HD, Hv, HO⟩
  iapply (h (insert (SemLoc.dma (dsem s), ()) W))
  isplitr [HR]; swap; · iexact HR
  ihave HD := deliveries $$ HD
  icases HD with ⟨H1, H2⟩
  isplitl [H1]; · iexact H1
  isplitl [H2]; · iexact H2
  isplitl [Hv]; · iexact Hv
  iexact HO

end Steps

end Cert.KernelIdeal.Ring

end
-- ==== Proof.KernelIdealBody.lean ====
/-
  The kernel's body at one grid point, walked operation by operation with the rules of the steps module.
-/
module

public import proofs.«01_k».proof.Proof.KernelIdealSteps

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UU nD τ) ℕ

/-- Slot `s` as its point finds it: any contents, and the semaphore at rest. -/
def Fr (c : Dev nD) (s : Fin 6) : sProp 𝕄 :=
  iprop((∃ f : OBuf (F := F) c, oM.view.loc (c : Thread nD τ) ↦[rows s.val 0]{fullShare} f) ∗ semVal ((c : Thread nD τ), SemLoc.dma (dsem s)) 0)

/-- What the core owes, whatever it has waited on. -/
def Ow (c : Dev nD) : sProp 𝕄 := iprop(∃ W : Waits sig Unit, owes (c : Thread nD τ) 0 W)

/-- A chunk of the result at its final contents. -/
def Done (c : Dev nD) (G : RBuf (F := F) c) (b : ℕ) : sProp 𝕄 := iprop(rM.view.loc (c : Thread nD τ) ↦[cols b 0]{fullShare} G)

/-- A chunk of the result at any contents. -/
def Todo (c : Dev nD) (b : ℕ) : sProp 𝕄 := iprop(∃ f : RBuf (F := F) c, rM.view.loc (c : Thread nD τ) ↦[cols b 0]{fullShare} f)

/-- The semaphore of slot `m`, as the kernel addresses it. -/
theorem sem_at {m : ℕ} {off : Fin 1 → ℕ} {inb} (s : Fin 6) (ho : off = ![m]) (hs : m = s.val) :
    ((cc0_scratch1.slice (Rect.unit (s := S6) off S1.size inb)).squeeze S_ squeezes_S1_S_).sem = dsem s := by
  subst ho hs
  revert s
  decide

section Body

variable {c : Dev nD} {M0 M1 M2 : Memref sig .tc .vmem S64x256 .f32} {M3 : Memref sig .tc .vmem S64x64 .f32}
variable {X0 X1 X2 : S64x256.Idx → Elt F .f32} {X3 : S64x64.Idx → Elt F .f32}
variable {G : RBuf (F := F) c} {s : Fin 6} {b : ℕ}

variable (c) in
/-- From `P` the program `p` runs and ends in `Q`. -/
structure Runs {α : Type} (P : sProp 𝕄) (p : Prog (TpuEff nD τ sig (Elt F) Λ₀ .tc) α) (Q : α → sProp 𝕄) : Prop where
  out : P ⊢ wp frame (wpE (defs₀ (F := F)) Variants.none (c : Thread nD τ) none) Set.univ p Q

/-- A part followed by the rest: the part with the rest as its postcondition. -/
theorem part_bind {α β : Type} {P : sProp 𝕄} {Q : β → sProp 𝕄} {p : Prog (TpuEff nD τ sig (Elt F) Λ₀ .tc) α}
    {k : α → Prog (TpuEff nD τ sig (Elt F) Λ₀ .tc) β} (h : Runs c P p fun a => wp frame (wpE (defs₀ (F := F)) Variants.none (c : Thread nD τ) none) Set.univ (k a) Q) : Runs c P (p >>= k) Q :=
  ⟨by rw [wp_bind]; exact h.out⟩

/-- A part's return, and what runs after it. -/
theorem part_ret {α β : Type} {P : sProp 𝕄} {Q : β → sProp 𝕄} {a : α}
    {k : α → Prog (TpuEff nD τ sig (Elt F) Λ₀ .tc) β} (h : Runs c P (k a) Q) :
    Runs c P (pure a : Prog (TpuEff nD τ sig (Elt F) Λ₀ .tc) α) fun a => wp frame (wpE (defs₀ (F := F)) Variants.none (c : Thread nD τ) none) Set.univ (k a) Q :=
  ⟨h.out.trans (le_wp_ret _ _ _ a fun a => wp frame (wpE (defs₀ (F := F)) Variants.none (c : Thread nD τ) none) Set.univ (k a) Q)⟩

/-- The end of the body. -/
theorem run_ret {α : Type} {P : sProp 𝕄} {Q : α → sProp 𝕄} {a : α} (h : P ⊢ Q a) :
    Runs c P (pure a : Prog (TpuEff nD τ sig (Elt F) Λ₀ .tc) α) Q :=
  ⟨h.trans (le_wp_ret _ _ _ a Q)⟩

/-- The load of row `m` of the inputs: it reads that row. -/
theorem run_row {α : Type} {R : sProp 𝕄} {Q : α → sProp 𝕄} {n j m : ℕ} {off : Fin 2 → ℕ} {inb} {hl}
    {k : Vec F S1x256 .f32 → Prog (TpuEff nD τ sig (Elt F) Λ₀ .tc) α} (ho : off = ![m, 0]) (hm : m < 64)
    (h : Runs c iprop(St c M0 M1 M2 M3 X0 X1 X2 X3 G s b n j ∗ R) (k (rowOf X0 ⟨m, hm⟩)) Q) :
    Runs c iprop(St c M0 M1 M2 M3 X0 X1 X2 X3 G s b n j ∗ R)
      (Prog.lift (.load M0 (Rect.unit (s := S64x256) off S1x256.size inb).toLoadRect hl) >>= k) Q := ⟨st_row ho hm h.out⟩

/-- A load from the ring before a store, whose value is not used. -/
theorem run_ldo {α : Type} {R : sProp 𝕄} {Q : α → sProp 𝕄} {n j r : ℕ} {off : Fin 4 → ℕ} {inb} {hl}
    {k : Vec F S1x1x64x256 .f32 → Prog (TpuEff nD τ sig (Elt F) Λ₀ .tc) α} (ho : off = ![s.val, r, 0, 0]) (hr : 16 * j ≤ r)
    (h : ∀ v, Runs c iprop(St c M0 M1 M2 M3 X0 X1 X2 X3 G s b n j ∗ R) (k v) Q) :
    Runs c iprop(St c M0 M1 M2 M3 X0 X1 X2 X3 G s b n j ∗ R)
      (Prog.lift (.load oM (Rect.unit (s := S6x64x64x256) off S1x1x64x256.size inb).toLoadRect hl) >>= k) Q :=
  ⟨st_ldo ho hr fun v => (h v).out⟩

/-- The store of the next row of the slot: one more row is stored. -/
theorem run_sto {α : Type} {R : sProp 𝕄} {Q : α → sProp 𝕄} {n j : ℕ} {off : Fin 4 → ℕ} {inb} {pay : Vec F S1x1x64x256 .f32} {hx hm}
    {k : PUnit → Prog (TpuEff nD τ sig (Elt F) Λ₀ .tc) α}
    (ho : off = ![s.val, n, 0, 0]) (hn : n < 64) (hr : 16 * j ≤ n) (hp : pay = rowV X3 X1 X2 (rowOf X0 ⟨n, hn⟩))
    (h : Runs c iprop(St c M0 M1 M2 M3 X0 X1 X2 X3 G s b (n + 1) j ∗ R) (k ⟨⟩) Q) :
    Runs c iprop(St c M0 M1 M2 M3 X0 X1 X2 X3 G s b n j ∗ R)
      (Prog.lift (.store oM (Rect.unit (s := S6x64x64x256) off S1x1x64x256.size inb) pay Finset.univ hx hm) >>= k) Q :=
  ⟨st_sto ho hn hr hp h.out⟩

/-- The start of the next copy, once its sixteen rows are stored: one more copy is issued. -/
theorem run_dma {α : Type} {R : sProp 𝕄} {Q : α → sProp 𝕄} {n j a bb : ℕ} {offs : Fin 4 → ℕ} {offd : Fin 3 → ℕ} {inbs inbd} {sm : DmaSem sig} {hs1 hs2 hs3}
    {k : PUnit → Prog (TpuEff nD τ sig (Elt F) Λ₀ .tc) α} (hG : Final c X0 X1 X2 X3 G b) (hs : a = s.val) (hb : bb = b)
    (hos : offs = ![a, 16 * j, 0, 0]) (hod : offd = ![16 * j, 0, bb]) (hsm : sm = dsem s) (hn : n = 16 * (j + 1)) (hj : j < 4)
    (h : Runs c iprop(St c M0 M1 M2 M3 X0 X1 X2 X3 G s b n (j + 1) ∗ R) (k ⟨⟩) Q) :
    Runs c iprop(St c M0 M1 M2 M3 X0 X1 X2 X3 G s b n j ∗ R)
      (Prog.lift (.enqueueDma
          ((oM.slice (Rect.unit (s := S6x64x64x256) offs S1x16x64x256.size inbs) (fun _ => rfl)).squeeze S16x64x256 squeezes_S1x16x64x256_S16x64x256)
          (.here (rM.slice (Rect.unit (s := S64x64x8192) offd S16x64x256.size inbd) (fun _ => rfl))) (.dma sm) hs1 hs2 hs3) >>= k) Q := by
  subst hs hb
  exact ⟨st_dma hG hos hod hsm hn hj h.out⟩

/-- What a run needs may be rearranged. -/
theorem run_pre {α : Type} {P P' : sProp 𝕄} {Q : α → sProp 𝕄} {p : Prog (TpuEff nD τ sig (Elt F) Λ₀ .tc) α} (hP : P ⊢ P') (h : Runs c P' p Q) :
    Runs c P p Q := ⟨hP.trans h.out⟩

/-- A branch, taken or not. -/
theorem run_dite {α : Type} {P : sProp 𝕄} {Q : α → sProp 𝕄} {C : Prop} [Decidable C] {p : C → Prog (TpuEff nD τ sig (Elt F) Λ₀ .tc) α}
    {p' : ¬C → Prog (TpuEff nD τ sig (Elt F) Λ₀ .tc) α} (h : ∀ hc, Runs c P (p hc) Q) (h' : ∀ hc, Runs c P (p' hc) Q) : Runs c P (dite C p p') Q := by
  by_cases hc : C
  · rw [dif_pos hc]; exact h hc
  · rw [dif_neg hc]; exact h' hc

/-- The wait that drains a slot, what is left to drain before it and what is drained after it. -/
theorem run_wait {α : Type} {R D : sProp 𝕄} {Q : α → sProp 𝕄} {offw offw' : Fin 4 → ℕ} {inbw inbw'} {sm : DmaSem sig} {hs1 hs2}
    {k : PUnit → Prog (TpuEff nD τ sig (Elt F) Λ₀ .tc) α} (hsm : sm = dsem s)
    (h : Runs c iprop(R ∗ Ow c ∗ (Fr c s ∗ Done c G b) ∗ D) (k ⟨⟩) Q) :
    Runs c iprop((Bt c G s b 4 ∗ R) ∗ Ow c ∗ D)
      (Prog.lift (.waitDma2 sm
          ((oM.slice (Rect.unit (s := S6x64x64x256) offw S1x64x64x256.size inbw) (fun _ => rfl)).squeeze S64x64x256 squeezes_S1x64x64x256_S64x64x256)
          ((oM.slice (Rect.unit (s := S6x64x64x256) offw' S1x64x64x256.size inbw') (fun _ => rfl)).squeeze S64x64x256 squeezes_S1x64x64x256_S64x64x256)
          hs1 hs2) >>= k) Q := by
  refine ⟨?_⟩
  iintro ⟨⟨HB, HR⟩, HO, HD⟩
  unfold Ow
  icases HO with ⟨%W, HO⟩
  iapply (wait_slot (s := s) (b := b) (G := G) (R := iprop(R ∗ D)) hsm fun W => ?_)
  · refine (show _ ⊢ _ from ?_).trans h.out
    unfold Ow Fr Done
    iintro ⟨⟨H1, H2, H3, H4⟩, HR, HD⟩
    isplitl [HR]; · iexact HR
    isplitl [H4]; · iexists W; iexact H4
    isplitr [HD]; swap; · iexact HD
    isplitr [H2]; swap; · iexact H2
    isplitl [H1]; · iexact H1
    iexact H3
  · isplitl [HB]; · iexact HB
    isplitl [HO]; · iexact HO
    isplitl [HR]; · iexact HR
    iexact HD

/-- The point's four copies are allotted before the first is issued. -/
theorem run_alloc {α : Type} {R : sProp 𝕄} {Q : α → sProp 𝕄} {p : Prog (TpuEff nD τ sig (Elt F) Λ₀ .tc) α}
    (h : Runs c iprop(St c M0 M1 M2 M3 X0 X1 X2 X3 G s b 0 0 ∗ R) p Q) :
    Runs c iprop(Ops c M0 M1 M2 M3 X0 X1 X2 X3 ∗ Fr c s ∗ Todo c b ∗ R) p Q := by
  refine ⟨?_⟩
  unfold Fr Todo
  iintro ⟨HOps, ⟨⟨%f, Hf⟩, Hv⟩, HT, HR⟩
  imod (Transfers.batch_alloc' (Lvl := ℕ) (countersEmb (U := UU nD τ)) (c : Thread nD τ) () N (Dlv c G s.val b) (sm := .dma (dsem s)) (E := Set.univ)) $$ Hv with HB
  iapply h.out
  isplitr [HR]; swap; · iexact HR
  unfold St Slot
  isplitl [HOps]; · iexact HOps
  isplitl [Hf]
  · iexists f; isplitr
    · ipureintro; intro i _ _ h0; exact absurd h0 (Nat.not_lt_zero _)
    · iexact Hf
  isplitl [HT]; · iexact HT
  iexact HB

/-- A whole block read through the rectangle of its own shape. -/
theorem whole_emb {e : EltTy} {S : Shape} {off : Fin S.rank → ℕ} {inb} (X : S.Idx → Elt F e) (ho : ∀ a, off a = 0) :
    (fun j : S.Idx => X ((Rect.unit (s := S) off S.size inb).emb j)) = X := by
  funext j
  refine congrArg X (funext fun a => Fin.ext ?_)
  show off a + 1 * (j a).val = (j a).val
  rw [ho a]; omega

/-- The load of the low ends, whole. -/
theorem run_ld1 {α : Type} {R : sProp 𝕄} {Q : α → sProp 𝕄} {inb} {hl}
    {k : Vec F S64x256 .f32 → Prog (TpuEff nD τ sig (Elt F) Λ₀ .tc) α}
    (h : Runs c iprop(Ops c M0 M1 M2 M3 X0 X1 X2 X3 ∗ R) (k X1) Q) :
    Runs c iprop(Ops c M0 M1 M2 M3 X0 X1 X2 X3 ∗ R)
      (Prog.lift (.load M1 (Rect.unit (s := S64x256) ![0, 0] S64x256.size inb).toLoadRect hl) >>= k) Q := by
  refine ⟨(show _ ⊢ iprop(owns (c : Thread nD τ) M1 fullShare X1 ∗ owns (c : Thread nD τ) M0 fullShare X0 ∗ owns (c : Thread nD τ) M2 fullShare X2
    ∗ owns (c : Thread nD τ) M3 fullShare X3 ∗ R) from ?_).trans (ld_owns ?_)⟩
  · unfold Ops; iintro ⟨⟨H0, H1, H2, H3⟩, HR⟩
    isplitl [H1]; · iexact H1
    isplitl [H0]; · iexact H0
    isplitl [H2]; · iexact H2
    isplitl [H3]; · iexact H3
    iexact HR
  · refine (show _ ⊢ _ from ?_).trans (h.out.trans (Entails.of_eq (congrArg (fun v => wp frame (wpE (defs₀ (F := F)) Variants.none (c : Thread nD τ) none) Set.univ (k v) Q) (whole_emb X1 (by decide)).symm)))
    unfold Ops; iintro ⟨H1, H0, H2, H3, HR⟩
    isplitr [HR]; swap; · iexact HR
    isplitl [H0]; · iexact H0
    isplitl [H1]; · iexact H1
    isplitl [H2]; · iexact H2
    iexact H3

/-- The load of the high ends, whole. -/
theorem run_ld2 {α : Type} {R : sProp 𝕄} {Q : α → sProp 𝕄} {inb} {hl}
    {k : Vec F S64x256 .f32 → Prog (TpuEff nD τ sig (Elt F) Λ₀ .tc) α}
    (h : Runs c iprop(Ops c M0 M1 M2 M3 X0 X1 X2 X3 ∗ R) (k X2) Q) :
    Runs c iprop(Ops c M0 M1 M2 M3 X0 X1 X2 X3 ∗ R)
      (Prog.lift (.load M2 (Rect.unit (s := S64x256) ![0, 0] S64x256.size inb).toLoadRect hl) >>= k) Q := by
  have sw : ∀ {X1 X2 : S64x256.Idx → Elt F .f32} {M1 M2}, iprop(Ops c M0 M1 M2 M3 X0 X1 X2 X3 ∗ R) ⊢ iprop(Ops c M0 M2 M1 M3 X0 X2 X1 X3 ∗ R) := by
    intro X1 X2 M1 M2
    unfold Ops; iintro ⟨⟨H0, H1, H2, H3⟩, HR⟩
    isplitr [HR]; swap; · iexact HR
    isplitl [H0]; · iexact H0
    isplitl [H2]; · iexact H2
    isplitl [H1]; · iexact H1
    iexact H3
  exact run_pre sw (run_ld1 (run_pre sw h))

/-- The load of the table, whole. -/
theorem run_ld3 {α : Type} {R : sProp 𝕄} {Q : α → sProp 𝕄} {inb} {hl}
    {k : Vec F S64x64 .f32 → Prog (TpuEff nD τ sig (Elt F) Λ₀ .tc) α}
    (h : Runs c iprop(Ops c M0 M1 M2 M3 X0 X1 X2 X3 ∗ R) (k X3) Q) :
    Runs c iprop(Ops c M0 M1 M2 M3 X0 X1 X2 X3 ∗ R)
      (Prog.lift (.load M3 (Rect.unit (s := S64x64) ![0, 0] S64x64.size inb).toLoadRect hl) >>= k) Q := by
  refine ⟨(show _ ⊢ iprop(owns (c : Thread nD τ) M3 fullShare X3 ∗ owns (c : Thread nD τ) M0 fullShare X0 ∗ owns (c : Thread nD τ) M1 fullShare X1
    ∗ owns (c : Thread nD τ) M2 fullShare X2 ∗ R) from ?_).trans (ld_owns ?_)⟩
  · unfold Ops; iintro ⟨⟨H0, H1, H2, H3⟩, HR⟩
    isplitl [H3]; · iexact H3
    isplitl [H0]; · iexact H0
    isplitl [H1]; · iexact H1
    isplitl [H2]; · iexact H2
    iexact HR
  · refine (show _ ⊢ _ from ?_).trans (h.out.trans (Entails.of_eq (congrArg (fun v => wp frame (wpE (defs₀ (F := F)) Variants.none (c : Thread nD τ) none) Set.univ (k v) Q) (whole_emb X3 (by decide)).symm)))
    unfold Ops; iintro ⟨H3, H0, H1, H2, HR⟩
    isplitr [HR]; swap; · iexact HR
    isplitl [H0]; · iexact H0
    isplitl [H1]; · iexact H1
    isplitl [H2]; · iexact H2
    iexact H3

/-- What the point finds of its slot: the copies of six points ago, or the slot at rest. -/
def Start (c : Dev nD) (G : RBuf (F := F) c) (i : grid0.Coords) (s : Fin 6) (b' : ℕ) : sProp 𝕄 :=
  if 6 ≤ (i 1).val then Bt c G s b' 4 else Fr c s
/-- What its wait brings: the chunk of six points ago. -/
def Old (c : Dev nD) (G : RBuf (F := F) c) (i : grid0.Coords) (b' : ℕ) : sProp 𝕄 :=
  if 6 ≤ (i 1).val then Done c G b' else iprop(emp)

/-- The kernel waits for its slot from the seventh point of a row of points on. -/
theorem cond1_iff (i : grid0.Coords) : k0_cond1 i = 1#1 ↔ 6 ≤ (i 1).val := by
  revert i; decide +kernel

/-- The first part: the operands are loaded, and the slot is waited for if copies of it are out. -/
theorem head {β : Type} {R : sProp 𝕄} {Q : β → sProp 𝕄} {h0 h1 h2 h3 h6 h7} {i : grid0.Coords} {b' : ℕ} (hs : (i 1).val % 6 = s.val)
    {k : (Σ' (arg1 : BitVec 32) (v1 : BitVec 32) (v2 : BitVec 32) (v15 : FVec F S64x64 .bf16) (v20 : FVec F S64x256 .f32) (v22 : FVec F S64x256 .f32), FVec F S64x256 .f32)
      → Prog (TpuEff nD τ sig (Elt F) Λ₀ .tc) β}
    (h : ∀ v1 v2, Runs c iprop(St c M0 M1 M2 M3 X0 X1 X2 X3 G s b 0 0 ∗ Old c G i b' ∗ Ow c ∗ R)
      (k ⟨BitVec.ofNat 32 (i 1).val, v1, v2, k0_pay1 X3, k0_pay2 X1, k0_pay3 X2, k0_pay4 X3 X1 X2 (rowOf X0 0)⟩) Q) :
    Runs c iprop(Ops c M0 M1 M2 M3 X0 X1 X2 X3 ∗ Start c G i s b' ∗ Todo c b ∗ Ow c ∗ R)
      (k0_part2 i M0 h0 M1 h1 M2 h2 M3 h3 rM h6 oM h7 cc0_scratch1) fun a => wp frame (wpE (defs₀ (F := F)) Variants.none (c : Thread nD τ) none) Set.univ (k a) Q := by
  rw [k0_part2_eq_skeleton]
  unfold k0_part2_skel
  refine run_ld3 ?_
  have hrest : Runs c iprop(Ops c M0 M1 M2 M3 X0 X1 X2 X3 ∗ Fr c s ∗ Todo c b ∗ Old c G i b' ∗ Ow c ∗ R) (do
      let v19 : Vec F S64x256 .f32 ← Prog.lift (.load M1 (Rect.unit (s := S64x256) ![0, 0] S64x256.size inb_S64x256_S64x256_0_0).toLoadRect (View.loadsAt_vmem h_S64x256))
      let v21 : Vec F S64x256 .f32 ← Prog.lift (.load M2 (Rect.unit (s := S64x256) ![0, 0] S64x256.size inb_S64x256_S64x256_0_0).toLoadRect (View.loadsAt_vmem h_S64x256))
      let v23 : Vec F S1x256 .f32 ← Prog.lift (.load M0 (Rect.unit (s := S64x256) ![0, 0] S1x256.size inb_S64x256_S1x256_0_0).toLoadRect (View.loadsAt_vmem h_S1x256))
      pure ⟨BitVec.ofNat 32 (i 1).val, Scalar.addi (Scalar.muli (BitVec.ofNat 32 (i 0).val) 16#32) (BitVec.ofNat 32 (i 1).val),
        Scalar.remsi (BitVec.ofNat 32 (i 1).val) 6#32, k0_pay1 X3, k0_pay2 v19, k0_pay3 v21, k0_pay4 X3 v19 v21 v23⟩) fun a => wp frame (wpE (defs₀ (F := F)) Variants.none (c : Thread nD τ) none) Set.univ (k a) Q :=
    run_ld1 (run_ld2 (run_alloc (run_row rfl (by decide) (part_ret (h _ _)))))
  split
  · rename_i hc
    refine run_pre (show _ ⊢ iprop((Bt c G s b' 4 ∗ Ops c M0 M1 M2 M3 X0 X1 X2 X3 ∗ Todo c b ∗ R) ∗ Ow c ∗ emp) from ?_) ?_
    · unfold Start; rw [if_pos ((cond1_iff i).mp hc)]
      iintro ⟨HO, HB, HT, HW, HR⟩
      isplitr [HW]
      · isplitl [HB]; · iexact HB
        isplitl [HO]; · iexact HO
        isplitl [HT]; · iexact HT
        iexact HR
      isplitl [HW]; · iexact HW
      iempintro
    · refine run_wait (sem_at s (k0_off1_eq i) hs) ?_
      refine run_pre ?_ hrest
      unfold Old; rw [if_pos ((cond1_iff i).mp hc)]
      iintro ⟨⟨HO, HT, HR⟩, HW, ⟨HF, HD⟩, -⟩
      isplitl [HO]; · iexact HO
      isplitl [HF]; · iexact HF
      isplitl [HT]; · iexact HT
      isplitl [HD]; · iexact HD
      isplitl [HW]; · iexact HW
      iexact HR
  · rename_i hc
    refine run_pre ?_ hrest
    unfold Start Old; rw [if_neg (fun h => hc ((cond1_iff i).mpr h)), if_neg (fun h => hc ((cond1_iff i).mpr h))]
    iintro ⟨HO, HF, HT, HW, HR⟩
    isplitl [HO]; · iexact HO
    isplitl [HF]; · iexact HF
    isplitl [HT]; · iexact HT
    isplitr; · iempintro
    isplitl [HW]; · iexact HW
    iexact HR

/-- The kernel drains the ring at the last point of a row of points. -/
theorem cond2_iff (i : grid0.Coords) :
    Scalar.cmpi .ne (Scalar.extui (Scalar.cmpi .eq (BitVec.ofNat 32 (i 1).val) 15#32) : BitVec 32) 0#32 = 1#1 ↔ (i 1).val = 15 := by
  revert i; decide +kernel

set_option maxHeartbeats 4000000 in
/-- The body at one point: at a half's last point everything still out is drained. -/
theorem run_body {R D : sProp 𝕄} {Q : PUnit → sProp 𝕄} {h0 h1 h2 h3 h6 h7} {i : grid0.Coords} {b' : ℕ} (hs : (i 1).val % 6 = s.val)
    (hb : 4096 * (i 0).val + 256 * (i 1).val = b) (hG : Final c X0 X1 X2 X3 G b) {bs : Fin 6 → ℕ}
    (hN : (i 1).val ≠ 15 → iprop(St c M0 M1 M2 M3 X0 X1 X2 X3 G s b 64 4 ∗ Old c G i b' ∗ Ow c ∗ R) ⊢ Q ⟨⟩)
    (hL : (i 1).val = 15 → iprop(St c M0 M1 M2 M3 X0 X1 X2 X3 G s b 64 4 ∗ Old c G i b' ∗ Ow c ∗ R)
      ⊢ iprop((Bt c G 0 (bs 0) 4 ∗ Bt c G 1 (bs 1) 4 ∗ Bt c G 2 (bs 2) 4 ∗ Bt c G 3 (bs 3) 4 ∗ Bt c G 4 (bs 4) 4 ∗ Bt c G 5 (bs 5) 4 ∗ emp) ∗ Ow c ∗ D))
    (hF : (i 1).val = 15 → iprop(emp ∗ Ow c ∗ (Fr c 5 ∗ Done c G (bs 5)) ∗ (Fr c 4 ∗ Done c G (bs 4)) ∗ (Fr c 3 ∗ Done c G (bs 3))
      ∗ (Fr c 2 ∗ Done c G (bs 2)) ∗ (Fr c 1 ∗ Done c G (bs 1)) ∗ (Fr c 0 ∗ Done c G (bs 0)) ∗ D) ⊢ Q ⟨⟩) :
    Runs c iprop(Ops c M0 M1 M2 M3 X0 X1 X2 X3 ∗ Start c G i s b' ∗ Todo c b ∗ Ow c ∗ R)
      (cc0__bin_embed_kernel i M0 h0 M1 h1 M2 h2 M3 h3 rM h6 oM h7 cc0_scratch1) Q := by
  have ho : ∀ n, ![(Scalar.remsi (BitVec.ofNat 32 (i 1).val) 6#32).toNat, n, 0, 0] = ![s.val, n, 0, 0] := fun n => by
    have h := congrFun (k0_off1_eq i) 0
    rw [show (Scalar.remsi (BitVec.ofNat 32 (i 1).val) 6#32).toNat = s.val from h.trans hs]
  rw [cc0__bin_embed_kernel_eq_skeleton]
  unfold cc0__bin_embed_kernel_skel
  rw [k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton,
    k0_part28_eq_skeleton, k0_part29_eq_skeleton, k0_part1_eq_skeleton]
  refine part_bind (head hs fun v1 v2 => ?_)
  repeat (first
    | refine run_ldo (ho _) (by decide) fun _ => ?_
    | refine run_sto (ho _) (by decide) (by decide) rfl ?_
    | refine run_row rfl (by decide) ?_
    | refine run_dma hG hs hb (k0_off21_eq i) (k0_off20_eq i) (sem_at s (k0_off19_eq i) hs) rfl (by decide) ?_
    | refine run_dma hG hs hb (k0_off39_eq i) (k0_off38_eq i) (sem_at s (k0_off19_eq i) hs) rfl (by decide) ?_
    | refine run_dma hG hs hb (k0_off57_eq i) (k0_off56_eq i) (sem_at s (k0_off19_eq i) hs) rfl (by decide) ?_
    | refine part_ret ?_
    | (refine part_bind ?_
       first
        | unfold k0_part3_skel | unfold k0_part4_skel | unfold k0_part5_skel | unfold k0_part6_skel | unfold k0_part7_skel
        | unfold k0_part8_skel | unfold k0_part9_skel | unfold k0_part10_skel | unfold k0_part11_skel | unfold k0_part12_skel
        | unfold k0_part13_skel | unfold k0_part14_skel | unfold k0_part15_skel | unfold k0_part16_skel | unfold k0_part17_skel
        | unfold k0_part18_skel | unfold k0_part19_skel | unfold k0_part20_skel | unfold k0_part21_skel | unfold k0_part22_skel
        | unfold k0_part23_skel | unfold k0_part24_skel | unfold k0_part25_skel | unfold k0_part26_skel | unfold k0_part27_skel
        | unfold k0_part28_skel | unfold k0_part29_skel))
  refine run_dma hG hs hb (k0_off75_eq i) (k0_off74_eq i) (sem_at s (k0_off19_eq i) hs) rfl (by decide) ?_
  have hp : iprop(St c M0 M1 M2 M3 X0 X1 X2 X3 G s b 64 4 ∗ Old c G i b' ∗ Ow c ∗ R) ⊢ iprop(St c M0 M1 M2 M3 X0 X1 X2 X3 G s b 64 4 ∗ Old c G i b' ∗ Ow c ∗ R) := .rfl
  refine run_pre hp ?_
  refine run_dite (fun hc => ?_) fun hc => ?_
  · have h15 := (cond2_iff i).mp hc
    refine run_pre (hL h15) (part_bind ?_)
    unfold k0_part1_skel
    refine run_wait (sem_at 0 rfl rfl) ?_
    refine run_wait (sem_at 1 rfl rfl) ?_
    refine run_wait (sem_at 2 rfl rfl) ?_
    refine part_ret ?_
    refine run_wait (sem_at 3 rfl rfl) ?_
    refine run_wait (sem_at 4 rfl rfl) ?_
    refine run_wait (sem_at 5 rfl rfl) ?_
    exact run_ret (hF h15)
  · exact run_ret (hN fun h => hc ((cond2_iff i).mpr h))

end Body

end Cert.KernelIdeal.Ring

end
-- ==== Proof.KernelIdealPoint.lean ====
/-
  What holds between two grid points: each slot of the ring at rest or with the four copies of its last point out, the
  finished part of the result at its final contents, the untouched part at any. One point's body takes this from the
  point to the next.
-/
module

public import proofs.«01_k».proof.Proof.KernelIdealBody
public import proofs.«01_k».proof.Proof.Gen.KernelIdeal.Frame

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! ## The result, by columns -/

/-- The columns before `n`. -/
def below (n : ℕ) : Finset S64x64x8192.Idx := Finset.univ.filter fun j => (j 2).val < n
/-- The columns from `n` on. -/
def above (n : ℕ) : Finset S64x64x8192.Idx := Finset.univ.filter fun j => n ≤ (j 2).val

/-- What it is to be a column before `n`. -/
theorem mem_below {n : ℕ} {j : S64x64x8192.Idx} : j ∈ below n ↔ (j 2).val < n := by simp [below]
/-- What it is to be a column from `n` on. -/
theorem mem_above {n : ℕ} {j : S64x64x8192.Idx} : j ∈ above n ↔ n ≤ (j 2).val := by simp [above]

/-- The columns up to the end of a chunk are those before it and its own. -/
theorem below_split (n : ℕ) : below (n + 256) = below n ∪ cols n 0 := by
  ext j; rw [Finset.mem_union, mem_below, mem_below, mem_cols]; omega
/-- The columns before a chunk are none of its own. -/
theorem below_disj (n : ℕ) : Disjoint (below n) (cols n 0) := by
  rw [Finset.disjoint_left]; intro j; rw [mem_below, mem_cols]; omega
/-- The columns from a chunk on are its own and those after it. -/
theorem above_split (n : ℕ) : above n = cols n 0 ∪ above (n + 256) := by
  ext j; rw [Finset.mem_union, mem_above, mem_above, mem_cols]; omega
/-- A chunk's columns are none of those after it. -/
theorem above_disj (n : ℕ) : Disjoint (cols n 0) (above (n + 256)) := by
  rw [Finset.disjoint_left]; intro j; rw [mem_above, mem_cols]; omega
/-- No column comes before the first. -/
theorem below_zero : below 0 = ∅ := by
  ext j; rw [mem_below]; simp
/-- Every column comes from the first on. -/
theorem above_zero : above 0 = Finset.univ := by
  ext j; rw [mem_above]; simp
/-- Every column comes before the end. -/
theorem below_all : below 8192 = Finset.univ := by
  ext j; rw [mem_below]; have : (j 2).val < 8192 := (j 2).isLt; simp [this]

/-- The columns before `n` at the final contents. -/
def DoneTo (c : Dev nD) (G : RBuf (F := F) c) (n : ℕ) : sProp 𝕄 := iprop(rM.view.loc (c : Thread nD τ) ↦[below n]{fullShare} G)
/-- The columns from `n` on, at any contents. -/
def TodoFrom (c : Dev nD) (n : ℕ) : sProp 𝕄 := iprop(∃ f : RBuf (F := F) c, rM.view.loc (c : Thread nD τ) ↦[above n]{fullShare} f)

/-- The finished part grows by a finished chunk. -/
theorem done_more {c : Dev nD} {G : RBuf (F := F) c} {n : ℕ} : iprop(DoneTo c G n ∗ Done c G n) ⊢ (DoneTo c G (n + 256) : sProp 𝕄) := by
  unfold DoneTo Done; rw [below_split]; exact (pointsTo_union (below_disj n)).2

/-- The untouched part gives up its first chunk. -/
theorem todo_less {c : Dev nD} {n : ℕ} : (TodoFrom (F := F) c n : sProp 𝕄) ⊢ iprop(Todo c n ∗ TodoFrom c (n + 256)) := by
  unfold TodoFrom Todo
  iintro ⟨%f, H⟩
  rw [above_split]
  ihave H := (pointsTo_union (above_disj n)).1 $$ H
  icases H with ⟨H1, H2⟩
  isplitl [H1]
  · iexists f; iexact H1
  · iexists f; iexact H2

/-! ## Between the points -/

/-- The column from which the copies out on slot `s` before point `k` write: the last point of this half on that slot. -/
def lastCol (k s : ℕ) : ℕ := 256 * (16 * (k / 16) + (s + 6 * ((k % 16 - 1 - s) / 6)))
/-- Slot `s` before point `k`. -/
def Sl (c : Dev nD) (G : RBuf (F := F) c) (k : ℕ) (s : Fin 6) : sProp 𝕄 :=
  if s.val < k % 16 then Bt c G s (lastCol k s.val) 4 else Fr c s
/-- How many columns are finished before point `k`. -/
def doneCols (k : ℕ) : ℕ := 256 * (16 * (k / 16) + (k % 16 - 6))

/-- The invariant before point `k`. -/
def Inv (c : Dev nD) (G : RBuf (F := F) c) (k : ℕ) : sProp 𝕄 :=
  iprop(bigSep Finset.univ (Sl c G k) ∗ DoneTo c G (doneCols k) ∗ TodoFrom c (256 * k))

/-- One slot taken out of the ring. -/
theorem ring_out {Φ : Fin 6 → sProp 𝕄} (s : Fin 6) : bigSep Finset.univ Φ = iprop(Φ s ∗ bigSep (Finset.univ.erase s) Φ) :=
  bigSep_erase (Finset.mem_univ s)

/-- A slot the point does not use stays as it is. -/
theorem Sl_other {c : Dev nD} {G : RBuf (F := F) c} {k : ℕ} {s : Fin 6} (hk : k % 16 ≠ 15) (hs : k % 16 % 6 ≠ s.val) : (Sl c G k s : sProp 𝕄) = Sl c G (k + 1) s := by
  have hs6 := s.isLt
  unfold Sl
  by_cases h : s.val < k % 16
  · rw [if_pos h, if_pos (by omega), show lastCol k s.val = lastCol (k + 1) s.val by unfold lastCol; omega]
  · rw [if_neg h, if_neg (by omega)]

/-- The slot the point uses, before it. -/
theorem Sl_start {c : Dev nD} {G : RBuf (F := F) c} {k : ℕ} {s : Fin 6} {i : grid0.Coords} (hi : (i 1).val = k % 16) (hs : k % 16 % 6 = s.val) :
    (Sl c G k s : sProp 𝕄) = Start c G i s (256 * (k - 6)) := by
  have hs6 := s.isLt
  unfold Sl Start
  rw [hi]
  by_cases h : 6 ≤ k % 16
  · rw [if_pos h, if_pos (by omega), show lastCol k s.val = 256 * (k - 6) by unfold lastCol; omega]
  · rw [if_neg h, if_neg (by omega)]

/-- And after it, unless it is its half's last. -/
theorem Sl_end {c : Dev nD} {G : RBuf (F := F) c} {k : ℕ} {s : Fin 6} (hk : k % 16 ≠ 15) (hs : k % 16 % 6 = s.val) :
    (Sl c G (k + 1) s : sProp 𝕄) = Bt c G s (256 * k) 4 := by
  have hs6 := s.isLt
  unfold Sl
  rw [if_pos (by omega), show lastCol (k + 1) s.val = 256 * k by unfold lastCol; omega]

/-- What the wait brings joins what is finished. -/
theorem done_step {c : Dev nD} {G : RBuf (F := F) c} {k : ℕ} {i : grid0.Coords} (hi : (i 1).val = k % 16) :
    iprop(DoneTo c G (doneCols k) ∗ Old c G i (256 * (k - 6))) ⊢ (DoneTo c G (256 * (16 * (k / 16) + (k % 16 + 1 - 6))) : sProp 𝕄) := by
  unfold Old
  rw [hi]
  by_cases h : 6 ≤ k % 16
  · rw [if_pos h, show 256 * (k - 6) = doneCols k by unfold doneCols; omega,
      show 256 * (16 * (k / 16) + (k % 16 + 1 - 6)) = doneCols k + 256 by unfold doneCols; omega]
    exact done_more
  · rw [if_neg h, show 256 * (16 * (k / 16) + (k % 16 + 1 - 6)) = doneCols k by unfold doneCols; omega]
    iintro ⟨H, -⟩; iexact H

section Point

variable {c : Dev nD} {M0 M1 M2 : Memref sig .tc .vmem S64x256 .f32} {M3 : Memref sig .tc .vmem S64x64 .f32}
variable {X0 X1 X2 : S64x256.Idx → Elt F .f32} {X3 : S64x64.Idx → Elt F .f32} {G : RBuf (F := F) c}

/-- One point's body takes the invariant to the next point. -/
theorem run_point {h0 h1 h2 h3 h6 h7} {i : grid0.Coords} {k : ℕ} (hi : (i 1).val = k % 16) (hk : 4096 * (i 0).val + 256 * (i 1).val = 256 * k)
    (hG : Final c X0 X1 X2 X3 G (256 * k)) :
    Runs c iprop(Inv c G k ∗ Ow c ∗ Ops c M0 M1 M2 M3 X0 X1 X2 X3)
      (cc0__bin_embed_kernel i M0 h0 M1 h1 M2 h2 M3 h3 rM h6 oM h7 cc0_scratch1)
      fun _ => iprop(Inv c G (k + 1) ∗ Ow c ∗ Ops c M0 M1 M2 M3 X0 X1 X2 X3) := by
  obtain ⟨s, hs⟩ : ∃ s : Fin 6, k % 16 % 6 = s.val := ⟨⟨k % 16 % 6, Nat.mod_lt _ (by decide)⟩, rfl⟩
  have hs6 := s.isLt
  refine run_pre (show _ ⊢ iprop(Ops c M0 M1 M2 M3 X0 X1 X2 X3 ∗ Start c G i s (256 * (k - 6)) ∗ Todo c (256 * k) ∗ Ow c
    ∗ (bigSep (Finset.univ.erase s) (Sl c G k) ∗ DoneTo c G (doneCols k) ∗ TodoFrom c (256 * (k + 1)))) from ?_) ?_
  · unfold Inv
    rw [ring_out s, Sl_start hi hs, show 256 * (k + 1) = 256 * k + 256 by omega]
    iintro ⟨⟨⟨HS, HSs⟩, HD, HT⟩, HW, HO⟩
    ihave HT := todo_less $$ HT
    icases HT with ⟨HT, HT'⟩
    isplitl [HO]; · iexact HO
    isplitl [HS]; · iexact HS
    isplitl [HT]; · iexact HT
    isplitl [HW]; · iexact HW
    isplitl [HSs]; · iexact HSs
    isplitl [HD]; · iexact HD
    iexact HT'
  · refine run_body (b' := 256 * (k - 6)) (bs := fun j => 256 * (16 * (k / 16) + ![12, 13, 14, 15, 10, 11] j))
      (D := iprop(Ops c M0 M1 M2 M3 X0 X1 X2 X3 ∗ DoneTo c G (256 * (16 * (k / 16) + 10)) ∗ TodoFrom c (256 * (k + 1))))
      (by rw [hi]; exact hs) hk hG (fun h => ?_) (fun h => ?_) (fun h => ?_)
    · rw [hi] at h
      unfold Inv
      rw [ring_out s, Sl_end h hs,
        bigSep_congr (s := Finset.univ.erase s) (Φ := Sl c G (k + 1)) (Ψ := Sl c G k)
          (fun s' hs' => (Sl_other h (fun e => (Finset.mem_erase.mp hs').1 (Fin.ext (e.symm.trans hs)))).symm)]
      unfold St
      iintro ⟨⟨HO, -, -, HB⟩, HOld, HW, HSs, HD, HT⟩
      ihave HD := (done_step hi) $$ [HD HOld]
      · isplitl [HD]; · iexact HD
        iexact HOld
      rw [show 256 * (16 * (k / 16) + (k % 16 + 1 - 6)) = doneCols (k + 1) by unfold doneCols; omega]
      isplitl [HB HSs HD HT]
      · isplitl [HB HSs]
        · isplitl [HB]; · iexact HB
          iexact HSs
        isplitl [HD]; · iexact HD
        iexact HT
      isplitl [HW]; · iexact HW
      iexact HO
    · rw [hi] at h
      obtain rfl : s = 3 := Fin.ext (by rw [← hs, h]; rfl)
      have hl : ∀ s' : Fin 6, s' ≠ 3 → (Sl c G k s' : sProp 𝕄) = Bt c G s' (256 * (16 * (k / 16) + ![12, 13, 14, 15, 10, 11] s')) 4 := by
        intro s' hs'
        unfold Sl
        rw [if_pos (by have := s'.isLt; omega), show lastCol k s'.val = 256 * (16 * (k / 16) + ![12, 13, 14, 15, 10, 11] s') by
          unfold lastCol; rw [h]; revert hs'; fin_cases s' <;> intro hs' <;> first | rfl | exact absurd rfl hs']
      rw [bigSep_eq_bigSepL_of_eq [(0 : Fin 6), 1, 2, 4, 5] (by decide) (by decide)]
      refine (show _ ⊢ iprop(St c M0 M1 M2 M3 X0 X1 X2 X3 G 3 (256 * k) 64 4 ∗ Old c G i (256 * (k - 6)) ∗ Ow c
        ∗ (Sl c G k 0 ∗ Sl c G k 1 ∗ Sl c G k 2 ∗ Sl c G k 4 ∗ Sl c G k 5) ∗ DoneTo c G (doneCols k) ∗ TodoFrom c (256 * (k + 1))) from .rfl).trans ?_
      rw [hl 0 (by decide), hl 1 (by decide), hl 2 (by decide), hl 4 (by decide), hl 5 (by decide)]
      unfold St
      iintro ⟨⟨HO, -, -, HB⟩, HOld, HW, ⟨H0, H1, H2, H4, H5⟩, HD, HT⟩
      ihave HD := (done_step hi) $$ [HD HOld]
      · isplitl [HD]; · iexact HD
        iexact HOld
      rw [h, show 256 * k = 256 * (16 * (k / 16) + 15) by omega]
      isplitl [H0 H1 H2 HB H4 H5]
      · isplitl [H0]; · iexact H0
        isplitl [H1]; · iexact H1
        isplitl [H2]; · iexact H2
        isplitl [HB]; · iexact HB
        isplitl [H4]; · iexact H4
        isplitl [H5]; · iexact H5
        iempintro
      isplitl [HW]; · iexact HW
      isplitl [HO]; · iexact HO
      isplitl [HD]; · iexact HD
      iexact HT
    · rw [hi] at h
      have hl : ∀ s' : Fin 6, (Sl c G (k + 1) s' : sProp 𝕄) = Fr c s' := fun s' => by unfold Sl; rw [if_neg (by omega)]
      unfold Inv
      rw [bigSep_congr (s := Finset.univ) (Φ := Sl c G (k + 1)) (Ψ := fun s' => Fr c s') (fun s' _ => hl s'),
        bigSep_univ_eq_bigSepL [(0 : Fin 6), 1, 2, 3, 4, 5] (by decide) (by decide)]
      refine BIBase.Entails.trans ?_ (show iprop(((Fr c 0 ∗ Fr c 1 ∗ Fr c 2 ∗ Fr c 3 ∗ Fr c 4 ∗ Fr c 5)
        ∗ DoneTo c G (doneCols (k + 1)) ∗ TodoFrom c (256 * (k + 1))) ∗ Ow c ∗ Ops c M0 M1 M2 M3 X0 X1 X2 X3) ⊢ _ from .rfl)
      rw [show doneCols (k + 1) = 256 * (16 * (k / 16) + 10) + 256 + 256 + 256 + 256 + 256 + 256 by unfold doneCols; omega]
      have e : ∀ n, 256 * (16 * (k / 16) + (n + 1)) = 256 * (16 * (k / 16) + n) + 256 := fun n => by omega
      iintro ⟨-, HW, ⟨F5, D5⟩, ⟨F4, D4⟩, ⟨F3, D3⟩, ⟨F2, D2⟩, ⟨F1, D1⟩, ⟨F0, D0⟩, HO, HD, HT⟩
      isplitr [HW HO]; swap
      · isplitl [HW]; · iexact HW
        iexact HO
      isplitl [F0 F1 F2 F3 F4 F5]
      · isplitl [F0]; · iexact F0
        isplitl [F1]; · iexact F1
        isplitl [F2]; · iexact F2
        isplitl [F3]; · iexact F3
        isplitl [F4]; · iexact F4
        iexact F5
      isplitr [HT]; swap; · iexact HT
      rw [show 256 * (16 * (k / 16) + ![12, 13, 14, 15, 10, 11] (3 : Fin 6)) = 256 * (16 * (k / 16) + 10) + 256 + 256 + 256 + 256 + 256 by
          show 256 * (16 * (k / 16) + 15) = _; omega,
        show 256 * (16 * (k / 16) + ![12, 13, 14, 15, 10, 11] (2 : Fin 6)) = 256 * (16 * (k / 16) + 10) + 256 + 256 + 256 + 256 by
          show 256 * (16 * (k / 16) + 14) = _; omega,
        show 256 * (16 * (k / 16) + ![12, 13, 14, 15, 10, 11] (1 : Fin 6)) = 256 * (16 * (k / 16) + 10) + 256 + 256 + 256 by
          show 256 * (16 * (k / 16) + 13) = _; omega,
        show 256 * (16 * (k / 16) + ![12, 13, 14, 15, 10, 11] (0 : Fin 6)) = 256 * (16 * (k / 16) + 10) + 256 + 256 by
          show 256 * (16 * (k / 16) + 12) = _; omega,
        show 256 * (16 * (k / 16) + ![12, 13, 14, 15, 10, 11] (5 : Fin 6)) = 256 * (16 * (k / 16) + 10) + 256 by
          show 256 * (16 * (k / 16) + 11) = _; omega,
        show 256 * (16 * (k / 16) + ![12, 13, 14, 15, 10, 11] (4 : Fin 6)) = 256 * (16 * (k / 16) + 10) by
          show 256 * (16 * (k / 16) + 10) = _; omega]
      iapply done_more; isplitr [D3]; swap; · iexact D3
      iapply done_more; isplitr [D2]; swap; · iexact D2
      iapply done_more; isplitr [D1]; swap; · iexact D1
      iapply done_more; isplitr [D0]; swap; · iexact D0
      iapply done_more; isplitr [D5]; swap; · iexact D5
      iapply done_more; isplitr [D4]; swap; · iexact D4
      iexact HD

end Point

end Cert.KernelIdeal.Ring

end
-- ==== Proof.KernelIdealRun.lean ====
/-
  The launch: the host operations before the region, the region with its thirty-two points, the transpose after it. Its
  end: the result's buffer at its computed contents, the arguments as they were, every semaphore at zero.
-/
module

public import proofs.«01_k».proof.Proof.KernelIdealPoint
public import Idealize.ShloMosaic.Lib.Pipeline.RegionsLoop
public import Idealize.ShloMosaic.Lib.Pipeline.FrameTail

@[expose] public section

noncomputable section

namespace Cert.KernelIdeal.Ring

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf ucRefs)

variable {F : FTy → Type} [FloatOps F]

local notation "𝕄" => MT nD τ sig Unit (Elt F) ℕ (UU nD τ) ℕ

/-- The pipeline's algebra is the left component. -/
abbrev EP : Emb (UR sig nD τ) (MT nD τ sig Unit (Elt F) ℕ (UU nD τ) ℕ) := embL

variable (m : (ℓ : Loc nD τ sig) → Buf (Elt F) ℓ) (ρ : Dev nD → PrngReg)

/-! ## The result's contents -/

/-- The point that computes the columns around column `j`. -/
def ptOf (j : Fin 8192) : Fin cfg0.N := ⟨j.val / 256, by rw [show cfg0.N = 32 from N_0]; omega⟩

/-- The result of the region: at (row, feature, column) what the column's point computes from its blocks. -/
def Gf (c : Dev nD) : RBuf (F := F) c := fun i =>
  rowV (iblk m c 3 (ptOf (i 2))) (iblk m c 1 (ptOf (i 2))) (iblk m c 2 (ptOf (i 2))) (rowOf (iblk m c 0 (ptOf (i 2))) (i 0))
    (ix4 (0 : Fin 1) (0 : Fin 1) (i 1) (⟨(i 2).val % 256, Nat.mod_lt _ (by decide)⟩ : Fin 256))

/-- The result's contents are, on each point's chunk, what that point's body computes. -/
theorem Gf_final (c : Dev nD) (t : Fin cfg0.N) : Final c (iblk m c 0 t) (iblk m c 1 t) (iblk m c 2 t) (iblk m c 3 t) (Gf m c) (256 * t.val) := by
  intro i q h
  have hq := q.isLt
  have e : ptOf (i 2) = t := Fin.ext (show (i 2).val / 256 = t.val by omega)
  have e' : (⟨(i 2).val % 256, Nat.mod_lt _ (by decide)⟩ : Fin 256) = q := Fin.ext (show (i 2).val % 256 = q.val by omega)
  unfold Gf
  rw [e, e']

/-- The grid's points in order: sixteen to a half, and each takes the next 256 columns. -/
theorem coords_at : ∀ t : Fin grid0.N, ((grid0.coords t) 1).val = t.val % 16
    ∧ 4096 * ((grid0.coords t) 0).val + 256 * ((grid0.coords t) 1).val = 256 * t.val := by decide +kernel

/-! ## The region's data -/

/-- The region's data on core `c`: the arrays as the host operations leave them, the staging buffers as fetched, the
    ring's invariant, nothing owed. -/
def dats (_ : Fin 1) (c : Dev nD) : Dat τ (Elt F) Unit ℕ (UU nD τ) ℕ cfg0 c where
  A w := V m c (Pipeline.arrRef spec0 w)
  after w t := match w with | ⟨0, _⟩ => iblk m c 0 t | ⟨1, _⟩ => iblk m c 1 t | ⟨2, _⟩ => iblk m c 2 t | ⟨3, _⟩ => iblk m c 3 t
  Φ t := Inv c (Gf m c) t.val
  q _ := fullShare
  owed _ := 0

/-- A window's array is the buffer as the region finds it. -/
theorem A_eq (c : Dev nD) (w : Fin cfg0.W) : (dats m 0 c).A w = V m c (Pipeline.arrRef spec0 w) := by
  dsimp only [dats]

/-- The body leaves the first window's staging buffer at its block. -/
theorem after0 (c : Dev nD) (t) : (dats m 0 c).after 0 t = iblk m c 0 t := by dsimp only [dats]
/-- The body leaves the second window's staging buffer at its block. -/
theorem after1 (c : Dev nD) (t) : (dats m 0 c).after 1 t = iblk m c 1 t := by dsimp only [dats]
/-- The body leaves the third window's staging buffer at its block. -/
theorem after2 (c : Dev nD) (t) : (dats m 0 c).after 2 t = iblk m c 2 t := by dsimp only [dats]
/-- The body leaves the fourth window's staging buffer at its block. -/
theorem after3 (c : Dev nD) (t) : (dats m 0 c).after 3 t = iblk m c 3 t := by dsimp only [dats]

/-- The first window's staging buffer holds its block when the body runs. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
/-- The second window's staging buffer holds its block when the body runs. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
/-- The third window's staging buffer holds its block when the body runs. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
/-- The fourth window's staging buffer holds its block when the body runs. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

/-- No loop needs a variant. -/
abbrev 𝒱₀ : Variants := Variants.none

/-- What the core owes at a point is nothing. -/
theorem owes_in (c : Dev nD) (t : Fin (cfg0.N + 1)) : ((dats m 0 c).owesAt () t : sProp 𝕄) ⊢ Ow c := by
  unfold Dat.owesAt Pipeline.owesWithin Ow
  rw [show (dats m 0 c).owed t = 0 from rfl]
  iintro ⟨%W, -, HO⟩; iexists W; iexact HO
/-- And to owe nothing is what a point asks. -/
theorem owes_out (c : Dev nD) (t : Fin (cfg0.N + 1)) : Ow c ⊢ ((dats m 0 c).owesAt () t : sProp 𝕄) := by
  unfold Dat.owesAt Pipeline.owesWithin Ow
  rw [show (dats m 0 c).owed t = 0 from rfl]
  iintro ⟨%W, HO⟩; iexists W; isplitr; · ipureintro; exact fun _ _ => Or.inl trivial
  iexact HO

set_option maxHeartbeats 1000000 in
/-- The body at a point takes the invariant to the next. -/
theorem body_obligation (c : Dev nD) : BodyObligation (dats m 0 c) (defs₀ (F := F)) 𝒱₀ () Set.univ := fun t => by
  rw [bigSep_W0, bigSep_W0]
  have hrun := (run_point (c := c) (M0 := st0_0 t) (M1 := st0_1 t) (M2 := st0_2 t) (M3 := st0_3 t) (G := Gf m c)
    (h0 := hstage0_0 ((cfg0.slots t 0).cast nbuf0_0)) (h1 := hstage0_1 ((cfg0.slots t 1).cast nbuf0_1))
    (h2 := hstage0_2 ((cfg0.slots t 2).cast nbuf0_2)) (h3 := hstage0_3 ((cfg0.slots t 3).cast nbuf0_3))
    (h6 := Memref.isWhole_whole _) (h7 := Memref.isWhole_whole _)
    (coords_at t).1 (coords_at t).2 (Gf_final m c t)).out
  refine BIBase.Entails.trans ?_ (hrun.trans (wp_mono _ _ _ fun _ => ?_))
  · rw [show (dats m 0 c).Φ t.castSucc = Inv c (Gf m c) t.val from rfl]
    simp only [before0, before1, before2, before3]
    iintro ⟨HI, HO, ⟨%d0, H0⟩, ⟨%d1, H1⟩, ⟨%d2, H2⟩, ⟨%d3, H3⟩⟩
    isplitl [HI]; · iexact HI
    isplitl [HO]; · iapply (owes_in m c t.castSucc); iexact HO
    unfold Ops
    isplitl [H0]; · iexact H0
    isplitl [H1]; · iexact H1
    isplitl [H2]; · iexact H2
    iexact H3
  · rw [show (dats m 0 c).Φ t.succ = Inv c (Gf m c) (t.val + 1) from rfl, after0, after1, after2, after3]
    unfold Ops
    iintro ⟨HI, HO, H0, H1, H2, H3⟩
    isplitl [HI]; · iexact HI
    isplitl [HO]; · iapply (owes_out m c t.succ); iexact HO
    isplitl [H0]; · iexact H0
    isplitl [H1]; · iexact H1
    isplitl [H2]; · iexact H2
    iexact H3

/-! ## The invariant at the region's ends -/

/-- The slots from `n` on. -/
def slotsFrom (n : ℕ) : Finset S6x64x64x256.Idx := Finset.univ.filter fun j => n ≤ (j 0).val
/-- What it is to lie in a slot from `n` on. -/
theorem mem_slotsFrom {n : ℕ} {j : S6x64x64x256.Idx} : j ∈ slotsFrom n ↔ n ≤ (j 0).val := by simp [slotsFrom]
/-- The slots from `n` on are slot `n` and those after it. -/
theorem slots_split (n : ℕ) : slotsFrom n = rows n 0 ∪ slotsFrom (n + 1) := by
  ext j; rw [Finset.mem_union, mem_slotsFrom, mem_slotsFrom, mem_rows]; omega
/-- Slot `n` is none of those after it. -/
theorem slots_disj (n : ℕ) : Disjoint (rows n 0) (slotsFrom (n + 1)) := by
  rw [Finset.disjoint_left]; intro j; rw [mem_slotsFrom, mem_rows]; omega
/-- Every slot comes from the first on. -/
theorem slots_zero : slotsFrom 0 = Finset.univ := by ext j; rw [mem_slotsFrom]; simp
/-- From the sixth slot on there is that slot only. -/
theorem slots_five : slotsFrom 5 = rows 5 0 := by
  ext j; rw [mem_slotsFrom, mem_rows]; have : (j 0).val < 6 := (j 0).isLt; omega

/-- The ring's slots from `n` on, at any contents. -/
def SlotsAt (c : Dev nD) (n : ℕ) : sProp 𝕄 := iprop(∃ f : OBuf (F := F) c, oM.view.loc (c : Thread nD τ) ↦[slotsFrom n]{fullShare} f)
/-- Slot `n` at any contents. -/
def SlotAt (c : Dev nD) (n : ℕ) : sProp 𝕄 := iprop(∃ f : OBuf (F := F) c, oM.view.loc (c : Thread nD τ) ↦[rows n 0]{fullShare} f)

/-- Slot `n` is taken off the slots from `n` on. -/
theorem slots_out {c : Dev nD} (n : ℕ) : (SlotsAt (F := F) c n : sProp 𝕄) ⊢ iprop(SlotAt c n ∗ SlotsAt c (n + 1)) := by
  unfold SlotsAt SlotAt
  iintro ⟨%f, H⟩
  rw [slots_split]
  ihave H := (pointsTo_union (slots_disj n)).1 $$ H
  icases H with ⟨H1, H2⟩
  isplitl [H1]
  · iexists f; iexact H1
  · iexists f; iexact H2
/-- And put back. -/
theorem slots_in {c : Dev nD} (n : ℕ) : iprop(SlotAt c n ∗ SlotsAt c (n + 1)) ⊢ (SlotsAt (F := F) c n : sProp 𝕄) := by
  unfold SlotsAt SlotAt
  rw [slots_split n]
  exact join_ex (F := F) (ℓ := oM.view.loc (c : Thread nD τ)) (slots_disj n)

/-- The six semaphores of the ring. -/
abbrev osem (s : Fin 6) : SemLoc sig := SemLoc.dma (dsem s)

/-- The launch's layout of the ring's semaphores: scoped, distinct, none a staging buffer's. -/
theorem ownSemFacts : Pipeline.OwnSemFacts spec0 osem := by decide

/-- The semaphores at rest. -/
def Sems (c : Dev nD) : sProp 𝕄 := iprop(semVal ((c : Thread nD τ), osem 0) 0 ∗ semVal ((c : Thread nD τ), osem 1) 0 ∗ semVal ((c : Thread nD τ), osem 2) 0
  ∗ semVal ((c : Thread nD τ), osem 3) 0 ∗ semVal ((c : Thread nD τ), osem 4) 0 ∗ semVal ((c : Thread nD τ), osem 5) 0)

/-- The ring's semaphores at rest, one by one. -/
theorem ownSems0_eq (c : Dev nD) :
    (Pipeline.ownSems0 (Ix := Unit) (Name := ℕ) (U := UU nD τ) (Lvl := ℕ) (Val := Elt F) (τ := τ) osem c : sProp 𝕄) = Sems c :=
  Pipeline.ownSems0_eq_of_list c osem [0, 1, 2, 3, 4, 5] (by decide) (by decide)

/-- The ring whole and its semaphores at rest are its six slots at rest. -/
theorem ring_eq {c : Dev nD} : iprop((∃ f : OBuf (F := F) c, oM.view.loc (c : Thread nD τ) ↦{fullShare} f) ∗ Sems c)
    ⊣⊢ (bigSep Finset.univ (fun s => Fr c s) : sProp 𝕄) := by
  rw [bigSep_univ_eq_bigSepL [(0 : Fin 6), 1, 2, 3, 4, 5] (by decide) (by decide)]
  have hz : iprop(∃ f : OBuf (F := F) c, oM.view.loc (c : Thread nD τ) ↦{fullShare} f) = (SlotsAt c 0 : sProp 𝕄) := by
    unfold SlotsAt; rw [slots_zero]
  have h5 : (SlotsAt c 5 : sProp 𝕄) = SlotAt (F := F) c 5 := by unfold SlotsAt SlotAt; rw [slots_five]
  constructor
  · refine BIBase.Entails.trans ?_ (show iprop((SlotAt (F := F) c 0 ∗ semVal ((c : Thread nD τ), osem 0) 0) ∗ (SlotAt (F := F) c 1 ∗ semVal ((c : Thread nD τ), osem 1) 0)
      ∗ (SlotAt (F := F) c 2 ∗ semVal ((c : Thread nD τ), osem 2) 0) ∗ (SlotAt (F := F) c 3 ∗ semVal ((c : Thread nD τ), osem 3) 0)
      ∗ (SlotAt (F := F) c 4 ∗ semVal ((c : Thread nD τ), osem 4) 0) ∗ (SlotAt (F := F) c 5 ∗ semVal ((c : Thread nD τ), osem 5) 0)) ⊢ _ from .rfl)
    rw [hz]; unfold Sems
    iintro ⟨H, V0, V1, V2, V3, V4, V5⟩
    ihave H := (slots_out 0) $$ H; icases H with ⟨H0, H⟩
    ihave H := (slots_out 1) $$ H; icases H with ⟨H1, H⟩
    ihave H := (slots_out 2) $$ H; icases H with ⟨H2, H⟩
    ihave H := (slots_out 3) $$ H; icases H with ⟨H3, H⟩
    ihave H := (slots_out 4) $$ H; icases H with ⟨H4, H⟩
    ihave H := (Entails.of_eq h5) $$ H
    isplitl [H0 V0]; · isplitl [H0]; · iexact H0
                       iexact V0
    isplitl [H1 V1]; · isplitl [H1]; · iexact H1
                       iexact V1
    isplitl [H2 V2]; · isplitl [H2]; · iexact H2
                       iexact V2
    isplitl [H3 V3]; · isplitl [H3]; · iexact H3
                       iexact V3
    isplitl [H4 V4]; · isplitl [H4]; · iexact H4
                       iexact V4
    isplitl [H]; · iexact H
    iexact V5
  · refine (show _ ⊢ iprop((SlotAt (F := F) c 0 ∗ semVal ((c : Thread nD τ), osem 0) 0) ∗ (SlotAt (F := F) c 1 ∗ semVal ((c : Thread nD τ), osem 1) 0)
      ∗ (SlotAt (F := F) c 2 ∗ semVal ((c : Thread nD τ), osem 2) 0) ∗ (SlotAt (F := F) c 3 ∗ semVal ((c : Thread nD τ), osem 3) 0)
      ∗ (SlotAt (F := F) c 4 ∗ semVal ((c : Thread nD τ), osem 4) 0) ∗ (SlotAt (F := F) c 5 ∗ semVal ((c : Thread nD τ), osem 5) 0)) from .rfl).trans ?_
    rw [hz, ← h5]; unfold Sems
    iintro ⟨⟨H0, V0⟩, ⟨H1, V1⟩, ⟨H2, V2⟩, ⟨H3, V3⟩, ⟨H4, V4⟩, H5, V5⟩
    isplitr [V0 V1 V2 V3 V4 V5]
    · iapply (slots_in 0); isplitl [H0]; · iexact H0
      iapply (slots_in 1); isplitl [H1]; · iexact H1
      iapply (slots_in 2); isplitl [H2]; · iexact H2
      iapply (slots_in 3); isplitl [H3]; · iexact H3
      iapply (slots_in 4); isplitl [H4]; · iexact H4
      iexact H5
    isplitl [V0]; · iexact V0
    isplitl [V1]; · iexact V1
    isplitl [V2]; · iexact V2
    isplitl [V3]; · iexact V3
    isplitl [V4]; · iexact V4
    iexact V5

/-- Before a half's first point all slots are at rest. -/
theorem Sl_rest {c : Dev nD} {G : RBuf (F := F) c} {k : ℕ} (hk : k % 16 = 0) : (bigSep Finset.univ (Sl c G k) : sProp 𝕄) = bigSep Finset.univ (fun s => Fr c s) :=
  bigSep_congr fun s _ => by unfold Sl; rw [if_neg (by omega)]

/-- The invariant at the region's entry. -/
theorem inv_in {c : Dev nD} {G f : RBuf (F := F) c} :
    iprop((rM.view.loc (c : Thread nD τ) ↦{fullShare} f) ∗ Sems c ∗ ∃ f : OBuf (F := F) c, oM.view.loc (c : Thread nD τ) ↦{fullShare} f) ⊢ (Inv c G 0 : sProp 𝕄) := by
  unfold Inv
  rw [Sl_rest rfl]
  iintro ⟨HR, HS, HO⟩
  isplitl [HS HO]
  · iapply ring_eq.1; isplitl [HO]; · iexact HO
    iexact HS
  unfold DoneTo TodoFrom
  rw [show doneCols 0 = 0 from rfl, below_zero, show 256 * 0 = 0 from rfl, above_zero]
  have he : Finset.univ = (∅ : Finset S64x64x8192.Idx) ∪ Finset.univ := (Finset.empty_union _).symm
  ihave HR := (show (iprop(rM.view.loc (c : Thread nD τ) ↦{fullShare} f) : sProp 𝕄) ⊢ iprop((rM.view.loc (c : Thread nD τ) ↦[(∅ : Finset S64x64x8192.Idx)]{fullShare} f)
    ∗ (rM.view.loc (c : Thread nD τ) ↦{fullShare} f)) from by
      conv_lhs => rw [he]
      exact (pointsTo_union (Finset.disjoint_empty_left _)).1) $$ HR
  icases HR with ⟨H1, H2⟩
  isplitl [H1]
  · iapply (Entails.of_eq (pointsTo_congr (f := f) (g := G) fun i hi => absurd hi (Finset.notMem_empty i))); iexact H1
  · iexists f; iexact H2

/-- The invariant at the region's exit. -/
theorem inv_out {c : Dev nD} {G : RBuf (F := F) c} :
    (Inv c G 32 : sProp 𝕄) ⊢ iprop((rM.view.loc (c : Thread nD τ) ↦{fullShare} G) ∗ Sems c ∗ ∃ f : OBuf (F := F) c, oM.view.loc (c : Thread nD τ) ↦{fullShare} f) := by
  unfold Inv
  rw [Sl_rest rfl]
  iintro ⟨HS, HD, -⟩
  ihave HS := ring_eq.2 $$ HS
  icases HS with ⟨HO, HS⟩
  unfold DoneTo
  rw [show doneCols 32 = 8192 from rfl, below_all]
  isplitl [HD]; · iexact HD
  isplitl [HS]; · iexact HS
  iexact HO

/-! ## The buffers after the region, and at the end -/

/-- The buffers after the region: the result's at its computed contents, the others as before. -/
def VA (c : Dev nD) : Valuation τ sig (Elt F) := Function.update (V0 m c) (Proc.devRef .tc main_v5) (Gf m c)
/-- And at the end. -/
def VF (c : Dev nD) : Valuation τ sig (Elt F) := StableHlo.after hostOps1 (VA m c)

/-- After the region the result's buffer holds the computed contents. -/
theorem VA_v5 (c : Dev nD) : VA m c (Proc.devRef .tc main_v5) = Gf m c := by unfold VA; exact Function.update_self ..
/-- Every other buffer is as the region found it. -/
theorem VA_ne (c : Dev nD) (b : Ref sig .tc) (h : b ≠ main_v5) : VA m c (Proc.devRef .tc b) = V m c b := by
  unfold VA; exact Function.update_of_ne (StableHlo.devRef_ne_of_ne h) ..

/-- The transpose after the region writes its own result only. -/
theorem VF_ne (c : Dev nD) (b : Ref sig .tc) (h : b ≠ main_v6) : VF m c (Proc.devRef .tc b) = VA m c (Proc.devRef .tc b) := by
  unfold VF
  refine StableHlo.after_of_forall_not_mem (b := Proc.devRef .tc b) _ _ (List.forall_iff_forall_mem.mp ?_)
  simp only [hostOps1, List.Forall, StableHlo.unary_writes, Finset.mem_singleton]
  exact StableHlo.devRef_ne_of_ne h

/-- The kernel's result is the transpose of the region's. -/
theorem VF_v6 (c : Dev nD) : VF m c (Proc.devRef .tc main_v6) = transpose S8192x64x64 [2, 0, 1] (Gf m c) transposes_S64x64x8192_S8192x64x64_2_0_1 := by
  unfold VF
  rw [StableHlo.after_cons, StableHlo.after_nil]
  rw [← VA_v5]
  exact StableHlo.unary_result ..

/-! ## The launch -/

/-- The launch's resource: the pipeline's at its cells and transfers; no counter yet. -/
def u₀ : UU nD τ := (initOf (Pipeline.cells cfgs cellOf_inj) (Pipeline.launchToks cfgs cellOf_inj), 1)

/-- No counter has a level yet. -/
abbrev L : GSem nD τ sig → Finset Unit := fun _ => ∅
/-- Every level is zero. -/
abbrev lv : GSem nD τ sig → Unit → ℕ := fun _ _ => 0
/-- The pipeline is admissible. -/
abbrev adm : (p : Fin 1) → (pcfgs (F := F) p).Adm := fun p => (cfgs p).toPCfg_adm

/-- The buffers at launch. -/
abbrev V₀ (c : Dev nD) : Valuation τ sig (Elt F) := fun b => m (c, b)

/-- The host operations before the region. -/
def seg0 : Pipeline.HostSeg (Name := ℕ) (U := UU nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    (List.forall_iff_forall_mem.mp hostOps0_fresh) (V₀ m) (fun c => Ow c)

/-- The transpose after it. -/
def seg1 : Pipeline.HostSeg (Name := ℕ) (U := UU nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    (List.forall_iff_forall_mem.mp hostOps1_fresh) (VA m) (fun c => Ow c)

/-- What passes by the region: the buffers that are neither an array of the pipeline nor the result. -/
def Rest (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_v1) ↦{fullShare} V m c main_v1)
    ∗ (((c : Thread nD τ).loc main_v3) ↦{fullShare} V m c main_v3) ∗ (((c : Thread nD τ).loc main_v6) ↦{fullShare} V m c main_v6))

set_option backward.isDefEq.respectTransparency.types false in
/-- At the region's entry the buffers are its arrays, the result's buffer and the rest. -/
theorem entry_split (c : Dev nD) : (StableHlo.held (c : Thread nD τ) (ucRefs τ sig) (StableHlo.after hostOps0 (V₀ m c)) : sProp 𝕄)
    ⊢ iprop((dats m 0 c).arrays ((dats m 0 c).arrAt · 0) ∗ (rM.view.loc (c : Thread nD τ) ↦{fullShare} V m c main_v5) ∗ Rest m c) := by
  rw [show StableHlo.held (c : Thread nD τ) (ucRefs τ sig) (StableHlo.after hostOps0 (V₀ m c)) = unscopedBufs c (V m c)
    from (Pipeline.unscopedBufs_held (Ix := Unit) (Name := ℕ) (U := UU nD τ) (Lvl := ℕ) c _).symm]
  have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
  refine hsplit.trans ?_
  unfold Rest
  iintro ⟨Ha, H0, H1, H2, H3, H4, H5, H6⟩
  isplitl [Ha]; · iexact Ha
  isplitl [H5]; · iexact H5
  isplitl [H0]; · iexact H0
  isplitl [H1]; · iexact H1
  isplitl [H2]; · iexact H2
  isplitl [H3]; · iexact H3
  isplitl [H4]; · iexact H4
  iexact H6

/-- No array of the pipeline is the result's buffer. -/
theorem arr_ne : ∀ w, Pipeline.arrRef spec0 w ≠ main_v5 := by decide

/-- The arrays end as they entered. -/
theorem arr_end (c : Dev nD) (w : Fin cfg0.W) : (dats m 0 c).arrAt w cfg0.N = VA m c (Proc.devRef .tc (Pipeline.arrRef spec0 w)) := by
  rw [(dats m 0 c).arrAt_in w (by revert w; decide) cfg0.N, A_eq, VA_ne m c _ (arr_ne w)]

set_option backward.isDefEq.respectTransparency.types false in
/-- At its exit they are put back, the result at its computed contents. -/
theorem exit_join (c : Dev nD) : iprop((dats m 0 c).arrays ((dats m 0 c).arrAt · cfg0.N) ∗ (rM.view.loc (c : Thread nD τ) ↦{fullShare} Gf m c) ∗ Rest m c)
    ⊢ (StableHlo.held (c : Thread nD τ) (ucRefs τ sig) (VA m c) : sProp 𝕄) := by
  rw [show StableHlo.held (c : Thread nD τ) (ucRefs τ sig) (VA m c) = unscopedBufs c (fun b => VA m c (Proc.devRef .tc b))
    from (Pipeline.unscopedBufs_held (Ix := Unit) (Name := ℕ) (U := UU nD τ) (Lvl := ℕ) c _).symm]
  have hjoin := Pipeline.unscopedBufs_of_arrays (pcfgs (F := F)) adm (Ix := Unit) (Name := ℕ) (U := UU nD τ) (Lvl := ℕ)
    launch0.win launch0.arr_whole c (dats m) ((dats m 0 c).share_full fun _ => rfl)
    (fun b => VA m c (Proc.devRef .tc b)) (fun b => VA m c (Proc.devRef .tc b)) ((dats m 0 c).arrAt · cfg0.N) (arr_end m c) (fun _ _ => rfl)
  refine BIBase.Entails.trans ?_ ((sep_mono .rfl (Entails.of_eq (unscopedRest0_eq c (fun b => VA m c (Proc.devRef .tc b))).symm)).trans hjoin)
  unfold Rest
  rw [VA_v5, VA_ne m c main_arg0 (by decide), VA_ne m c main_arg1 (by decide), VA_ne m c main_arg2 (by decide), VA_ne m c main_v1 (by decide),
    VA_ne m c main_v3 (by decide), VA_ne m c main_v6 (by decide)]
  iintro ⟨Ha, H5, H0, H1, H2, H3, H4, H6⟩
  isplitl [Ha]; · iexact Ha
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The region. -/
def reg0 : Pipeline.RegionSeg (pcfgs (F := F)) adm (dats m) () defs₀ 𝒱₀ L lv 0 where
  win := launch0.win.to₀
  block_pos := launch0.block_pos
  stage_whole := launch0.stage_whole
  K := Fin 6
  osem := osem
  ho := ownSemFacts
  hbody c := (body_obligation m c).loose
  hwaits := Pipeline.hwaits_of_owed_zero _ _ _ _ L lv 0 fun _ _ => rfl
  pre c := iprop(StableHlo.held (c : Thread nD τ) (ucRefs τ sig) (StableHlo.after hostOps0 (V₀ m c)) ∗ Ow c)
  post c := iprop(StableHlo.held (c : Thread nD τ) (ucRefs τ sig) (VA m c) ∗ Ow c)
  X c := iprop((rM.view.loc (c : Thread nD τ) ↦{fullShare} V m c main_v5) ∗ Sems c)
  Y c := rM.view.loc (c : Thread nD τ) ↦{fullShare} Gf m c
  Z c := Rest m c
  hentry c := by
    rw [ownSems0_eq]
    iintro ⟨⟨Hub, HO⟩, Hos, -⟩
    ihave H := (entry_split m c) $$ Hub
    icases H with ⟨Ha, H5, HR⟩
    imodintro
    isplitl [Ha]; · iexact Ha
    isplitr; · unfold Pipeline.prefHeld; rw [show (Finset.univ : Finset (Fin 0)) = ∅ from rfl, BI.bigSep_empty]; iempintro
    isplitl [HO]; · iapply (owes_out m c 0); iexact HO
    isplitr [HR]; swap; · iexact HR
    isplitl [H5]; · iexact H5
    iexact Hos
  hin c := by
    rw [show (dats m 0 c).Φ 0 = Inv c (Gf m c) 0 from rfl]
    rw [scopedRest0_eq]
    iintro ⟨⟨H5, Hos⟩, -, Hr⟩
    iapply inv_in
    isplitl [H5]; · iexact H5
    isplitl [Hos]; · iexact Hos
    iexact Hr
  hout c := by
    rw [ownSems0_eq, show (dats m 0 c).Φ (Fin.last cfg0.N) = Inv c (Gf m c) 32 from by
      rw [show (dats m 0 c).Φ (Fin.last cfg0.N) = Inv c (Gf m c) cfg0.N from rfl, show cfg0.N = 32 from N_0], scopedRest0_eq]
    exact inv_out
  hexit c := by
    iintro ⟨Ha, HO, HY, HZ⟩
    imodintro
    isplitr [HO]
    · iapply (exit_join m c)
      isplitl [Ha]; · iexact Ha
      isplitl [HY]; · iexact HY
      iexact HZ
    · iapply (owes_in m c _); iexact HO

/-- @main's three segments. -/
abbrev segs : List (Pipeline.Seg (pcfgs (F := F)) adm (dats m) () defs₀ 𝒱₀ L lv) := [.host (seg0 m), .region (reg0 m), .host (seg1 m)]

set_option backward.isDefEq.respectTransparency.types false in
/-- Every run of @main ends, and every unscoped buffer then holds what the valuation at the end says, every semaphore
    zero. -/
theorem run_all : θ_run defs (onTc (τ := τ) (main (F := F))) (s₀ m ρ)
    (fun r => (∀ (c : Dev nD) (b : DevRef τ sig), b ∈ ucRefs τ sig → r.2.mem (c, b) = VF m c b) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ Ow c))
    (Tₙ := fun c => StableHlo.held (c : Thread nD τ) (ucRefs τ sig) (VF m c))
    (hch := ⟨fun _ => .rfl, fun _ => .rfl, fun _ => .rfl, fun c => (show iprop(StableHlo.held (c : Thread nD τ) (ucRefs τ sig) (VF m c) ∗ Ow c) ⊢ (_ : sProp 𝕄) from by
      unfold Ow
      iintro ⟨Hh, HO⟩
      isplitl [Hh] <;> iassumption)⟩)
    (hinit := by
      refine Pipeline.initEach L lv fun c => ?_
      rw [show unscopedBufs c (fun b => m ((c : Thread nD τ).loc b)) = StableHlo.held (c : Thread nD τ) (ucRefs τ sig) (V₀ m c)
        from Pipeline.unscopedBufs_held (Ix := Unit) (Name := ℕ) (U := UU nD τ) (Lvl := ℕ) c (V₀ m c)]
      unfold Ow
      iintro ⟨⟨Hh, -, HO, -, -, -⟩, -⟩
      imodintro
      isplitl [Hh]; · iexact Hh
      iexists ∅; iexact HO)
    (QY := fun c s => ∀ b ∈ ucRefs τ sig, s.mem (c, b) = VF m c b)
    (hfin := fun c s' => by
      unfold StableHlo.held
      iintro ⟨Hh, HSI⟩
      ihave Hr := (pointsTo_read_all (ucRefs τ sig) (fun b => (c, b)) (VF m c) s') $$ [Hh HSI]
      · isplitl [Hh] <;> iassumption
      imodintro; iexact Hr)
    (hQ := fun _ h hz => ⟨h, funext fun g => hz g (.inr (by revert g; decide))⟩)

/-- Every run of @main ends with the result at the transpose of the region's contents, the arguments unchanged and every
    semaphore zero. -/
theorem run_main : θ_run defs (onTc (τ := τ) (main (F := F))) (s₀ m ρ) (fun r => (∀ c : Dev nD,
      r.2.mem ((c.tc : Thread nD τ).loc main_v6) = transpose S8192x64x64 [2, 0, 1] (Gf m c) transposes_S64x64x8192_S8192x64x64_2_0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs (onTc (τ := τ) (main (F := F))) (s₀ m ρ)).mono (fun r h => ⟨fun c => ?_, h.2⟩) (run_all m ρ)
  have hat : ∀ b : Ref sig .tc, b.isScoped = false → r.2.mem ((c.tc : Thread nD τ).loc b) = VF m c (Proc.devRef .tc b) :=
    fun b hb => h.1 c _ (Pipeline.devRef_mem_ucRefs hb)
  refine ⟨(hat main_v6 rfl).trans (VF_v6 m c), ?_, ?_, ?_, ?_⟩
  · exact (hat main_arg0 rfl).trans (((VF_ne m c main_arg0 (by decide)).trans (VA_ne m c main_arg0 (by decide))).trans (V_main_arg0 m c))
  · exact (hat main_arg1 rfl).trans (((VF_ne m c main_arg1 (by decide)).trans (VA_ne m c main_arg1 (by decide))).trans (V_main_arg1 m c))
  · exact (hat main_arg2 rfl).trans (((VF_ne m c main_arg2 (by decide)).trans (VA_ne m c main_arg2 (by decide))).trans (V_main_arg2 m c))
  · exact (hat main_arg3 rfl).trans (((VF_ne m c main_arg3 (by decide)).trans (VA_ne m c main_arg3 (by decide))).trans (V_main_arg3 m c))

/-- The launch's end without the result: the arguments as they were, every semaphore at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run _ _ _).mono (fun _ h => ⟨fun c => (h.1 c).2, h.2⟩) (run_main m ρ)

end Cert.KernelIdeal.Ring

end
-- ==== Proof.KernelFrame.lean ====
/-
  The kernel's frame at hardware floats. With no rewrite offered, the kernel and its idealized form are one program, read
  at two instances of the floats, and the run of the ring is proved at any instance: it is taken here at hardware floats.
-/
module

public import proofs.«01_k».proof.Defs
public import proofs.«01_k».proof.Proof.KernelIdealRun
public import proofs.«01_k».proof.Proof.Gen.Kernel.Frame

@[expose] public section

noncomputable section

namespace Cert.KernelFrame

open Idealize.ShloMosaic Idealize.SL.Sem

/-- The body tables agree, whatever the floats. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (_, _) => rfl

/-- So do the tables with the regions added. -/
theorem defs_eq {F : FTy → Type} [FloatOps F] : Cert.Kernel.defs (F := F) = Cert.KernelIdeal.defs (F := F) :=
  congrArg (Pipeline.defs Cert.KernelIdeal.pcfgs) bodies_eq

/-- The kernel and its idealized form are one program, whatever the floats. -/
theorem main_eq {F : FTy → Type} [FloatOps F] : Cert.Kernel.main (F := F) = Cert.KernelIdeal.main (F := F) := rfl

/-- The kernel ends at hardware floats, its arguments as they were and every semaphore at zero. -/
theorem frame : Cert.quiescent_Kernel := by
  intro m g _
  rw [defs_eq, main_eq]
  exact Cert.KernelIdeal.Ring.run_frame (F := Bits) m g

end Cert.KernelFrame

end
-- ==== Proof.ReferenceRun.lean ====
/-
  The reference program's run: a straight line of whole-array operations, the index of the bin among them as a called
  function's five. Every fair execution ends, the arguments stand, no semaphore exists to be left raised, and the
  result buffer holds `refOut` of the arguments.
-/
module

public import Idealize.ShloMosaic.Lib.StableHlo.Run
public import proofs.«01_k».proof.Proof.Gen.ReferenceIdeal

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The operations of the program, in the order they run. -/
abbrev ops : List (HloOp τ sig (Elt F)) :=
  [ nullary main_v0 (iotaInDim S64 32 0),
    unary main_arg0 main_v1 (broadcastInDim S8192x64x1 ![0, 1] bcast_S8192x64_S8192x64x1_0_1),
    unary main_arg1 main_v2 (broadcastInDim S1x1x64 ![2] bcast_S64_S1x1x64_2),
    unary main_v1 main_v3 (broadcastInDim S8192x64x64 ![0, 1, 2] bcast_S8192x64x1_S8192x64x64_0_1_2),
    unary main_v2 main_v4 (broadcastInDim S8192x64x64 ![0, 1, 2] bcast_S1x1x64_S8192x64x64_0_1_2),
    binary main_v3 main_v4 main_v5 (cmpf .ogt),
    unary main_arg0 main_v6 (broadcastInDim S8192x64x1 ![0, 1] bcast_S8192x64_S8192x64x1_0_1),
    unary main_arg2 main_v7 (broadcastInDim S1x1x64 ![2] bcast_S64_S1x1x64_2),
    unary main_v6 main_v8 (broadcastInDim S8192x64x64 ![0, 1, 2] bcast_S8192x64x1_S8192x64x64_0_1_2),
    unary main_v7 main_v9 (broadcastInDim S8192x64x64 ![0, 1, 2] bcast_S1x1x64_S8192x64x64_0_1_2),
    binary main_v8 main_v9 main_v10 (cmpf .ole),
    binary main_v5 main_v10 main_v11 andi,
    TRef.nullary main_call0.v0 (iotaInDim S8192x64x64 32 2),
    TRef.nullary main_call0.c (constantI S_ 1 0#1),
    TRef.nullary main_call0.c_0 (constantI S_ 32 0#32),
    TRef.quaternary (.of main_v11) main_call0.v0 main_call0.c main_call0.c_0 main_call0.v1_0 (fun x y u v j => (Host.reduce2 reducer_argmax_i1_i32 x y u v reducesTo_S8192x64x64_S8192x64_d2 h_S_ j).1),
    TRef.quaternary (.of main_v11) main_call0.v0 main_call0.c main_call0.c_0 main_call0.v1_1 (fun x y u v j => (Host.reduce2 reducer_argmax_i1_i32 x y u v reducesTo_S8192x64x64_S8192x64_d2 h_S_ j).2),
    unary main_v12 main_v13 (broadcastInDim S8192x64x1 ![0, 1] bcast_S8192x64_S8192x64x1_0_1),
    unary main_v0 main_v14 (broadcastInDim S1x1x64 ![2] bcast_S64_S1x1x64_2),
    unary main_v13 main_v15 (broadcastInDim S8192x64x64 ![0, 1, 2] bcast_S8192x64x1_S8192x64x64_0_1_2),
    unary main_v14 main_v16 (broadcastInDim S8192x64x64 ![0, 1, 2] bcast_S1x1x64_S8192x64x64_0_1_2),
    binary main_v15 main_v16 main_v17 subi,
    unary main_v17 main_v18 absi,
    nullary main_c (constantI S_ 32 1#32),
    unary main_c main_v19 (broadcastInDim S8192x64x64 ![] bcast_S_S8192x64x64),
    binary main_v18 main_v19 main_v20 addi,
    unary main_v20 main_v21 (sitofp .f32),
    nullary main_cst (constant S_ .f32 0x3F800000#32),
    unary main_cst main_v22 (broadcastInDim S8192x64x64 ![] bcast_S_S8192x64x64),
    binary main_v22 main_v21 main_v23 Host.divf,
    binary main_v23 main_arg3 main_v24 (fun l r => Host.dotGeneral dot_S8192x64x64_S64x64_S8192x64x64_2_0_01_1_n_n none l r) ]

set_option maxRecDepth 1024 in
/-- The program is that list, the called function's lines in their place. -/
theorem main_eq (c : Dev nD) : main (F := F) c = seq ops := by
  simp only [main, fn_argmax.body, seq, bind_assoc, pure_bind]
  rfl

/-- Whether `x` lies in the bin: above its low end and not above its high end. -/
def inBin (x : Vec F S8192x64 .f32) (lo hi : Vec F S64 .f32) : IVec S8192x64x64 1 :=
  andi
    (cmpf .ogt
      (broadcastInDim S8192x64x64 ![0, 1, 2] bcast_S8192x64x1_S8192x64x64_0_1_2
        (broadcastInDim S8192x64x1 ![0, 1] bcast_S8192x64_S8192x64x1_0_1 x))
      (broadcastInDim S8192x64x64 ![0, 1, 2] bcast_S1x1x64_S8192x64x64_0_1_2
        (broadcastInDim S1x1x64 ![2] bcast_S64_S1x1x64_2 lo)))
    (cmpf .ole
      (broadcastInDim S8192x64x64 ![0, 1, 2] bcast_S8192x64x1_S8192x64x64_0_1_2
        (broadcastInDim S8192x64x1 ![0, 1] bcast_S8192x64_S8192x64x1_0_1 x))
      (broadcastInDim S8192x64x64 ![0, 1, 2] bcast_S1x1x64_S8192x64x64_0_1_2
        (broadcastInDim S1x1x64 ![2] bcast_S64_S1x1x64_2 hi)))

/-- The second result of the two-operand reduction the program calls. -/
def search {s t u : Shape} {axes : List (Fin s.rank)} (p : IVec s 1) (y : IVec s 32) (ip : IVec u 1) (iy : IVec u 32)
    (h : s.ReducesTo axes t) (hu : 0 < u.numel) : IVec t 32 := fun j =>
  (Host.reduce2 reducer_argmax_i1_i32 p y ip iy h hu j).2

/-- The index of the first bin the mask marks. -/
def binAt (p : IVec S8192x64x64 1) : IVec S8192x64 32 :=
  search p (iotaInDim S8192x64x64 32 2) (constantI S_ 1 0#1) (constantI S_ 32 0#32) reducesTo_S8192x64x64_S8192x64_d2 h_S_

/-- The weight of every bin, seen from the bin `k` names: one over one more than the distance. -/
def nearness (k : IVec S8192x64 32) : Vec F S8192x64x64 .f32 :=
  Host.divf (broadcastInDim S8192x64x64 ![] bcast_S_S8192x64x64 (constant S_ .f32 0x3F800000#32))
    (sitofp .f32
      (addi
        (absi
          (subi
            (broadcastInDim S8192x64x64 ![0, 1, 2] bcast_S8192x64x1_S8192x64x64_0_1_2
              (broadcastInDim S8192x64x1 ![0, 1] bcast_S8192x64_S8192x64x1_0_1 k))
            (broadcastInDim S8192x64x64 ![0, 1, 2] bcast_S1x1x64_S8192x64x64_0_1_2
              (broadcastInDim S1x1x64 ![2] bcast_S64_S1x1x64_2 (iotaInDim S64 32 0)))))
        (broadcastInDim S8192x64x64 ![] bcast_S_S8192x64x64 (constantI S_ 32 1#32))))

/-- What the program writes: the table's rows summed with those weights. -/
def refOut (x : Vec F S8192x64 .f32) (lo hi : Vec F S64 .f32) (w : Vec F S64x64 .f32) : Vec F S8192x64x64 .f32 :=
  Host.dotGeneral dot_S8192x64x64_S64x64_S8192x64x64_2_0_01_1_n_n none (nearness (binAt (inBin x lo hi))) w

/-- The operations folded over any contents leave `refOut` of the arguments in the result buffer. -/
theorem out_eq (V : Valuation τ sig (Elt F)) :
    after ops V (main_v24 : DevRef τ sig)
      = refOut (V (main_arg0 : DevRef τ sig)) (V (main_arg1 : DevRef τ sig)) (V (main_arg2 : DevRef τ sig))
          (V (main_arg3 : DevRef τ sig)) := by
  after_results_simp
  rfl

/-- The first argument stands. -/
theorem arg0_eq (V : Valuation τ sig (Elt F)) :
    after ops V (main_arg0 : DevRef τ sig) = V (main_arg0 : DevRef τ sig) := by
  simp only [after_cons, after_nil]
  rfl

/-- The second argument stands. -/
theorem arg1_eq (V : Valuation τ sig (Elt F)) :
    after ops V (main_arg1 : DevRef τ sig) = V (main_arg1 : DevRef τ sig) := by
  simp only [after_cons, after_nil]
  rfl

/-- The third argument stands. -/
theorem arg2_eq (V : Valuation τ sig (Elt F)) :
    after ops V (main_arg2 : DevRef τ sig) = V (main_arg2 : DevRef τ sig) := by
  simp only [after_cons, after_nil]
  rfl

/-- The fourth argument stands. -/
theorem arg3_eq (V : Valuation τ sig (Elt F)) :
    after ops V (main_arg3 : DevRef τ sig) = V (main_arg3 : DevRef τ sig) := by
  simp only [after_cons, after_nil]
  rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- Every operation touches buffers the core addresses. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., unary_bufs_sub .., unary_bufs_sub .., unary_bufs_sub .., binary_bufs_sub .., binary_bufs_sub ..,
    nullary_bufs_sub .., nullary_bufs_sub .., nullary_bufs_sub .., quaternary_bufs_sub .., quaternary_bufs_sub ..,
    unary_bufs_sub .., unary_bufs_sub .., unary_bufs_sub .., unary_bufs_sub .., binary_bufs_sub .., unary_bufs_sub ..,
    nullary_bufs_sub .., unary_bufs_sub .., binary_bufs_sub .., unary_bufs_sub .., nullary_bufs_sub .., unary_bufs_sub ..,
    binary_bufs_sub .., binary_bufs_sub ..⟩

/-- The program has no semaphore, so any counters are the zero counters. -/
theorem sem_eq (f g : GSem nD τ sig → Int) : f = g := by
  funext s
  rcases s with ⟨_, s | s⟩ <;> exact s.elim0

/-- The run: the result is `refOut` of the arguments, the arguments stand, the counters are zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_v24)
          = refOut (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono
    (fun r h => ⟨fun c => ⟨(h c main_v24).trans (out_eq _), (h c main_arg0).trans (arg0_eq _),
      (h c main_arg1).trans (arg1_eq _), (h c main_arg2).trans (arg2_eq _), (h c main_arg3).trans (arg3_eq _)⟩,
      sem_eq _ _⟩)
    (run_seq scopedRefs_eq scopedSems_eq defs main (fun _ => ops) main_eq (fun _ => ops_sub) m ρ)

end Cert.ReferenceIdeal.Line

end
-- ==== Proof.OneBin.lean ====
/-
  The bin of an input. Under the precondition exactly one bin holds each input, so the mask of the bins is one there and
  zero elsewhere, and the reduction that looks for its first mark finds it.
-/
module

public import proofs.«01_k».proof.Defs
public import proofs.«01_k».proof.Proof.Gen.Pre_one_bin
public import proofs.«01_k».proof.Proof.ReferenceRun
public import Idealize.ShloMosaic.Lib.Pointwise
public import Idealize.ShloMosaic.Lib.ReduceAll
public import Idealize.ShloMosaic.Lib.IndicatorCount
public import Idealize.ShloMosaic.Lib.Pipeline.Value

@[expose] public section

noncomputable section

namespace Cert.OneBin

open Idealize.ShloMosaic
open Cert.ReferenceIdeal Cert.ReferenceIdeal.Gen Cert.ReferenceIdeal.Line

variable {F : FTy → Type} [FloatOps F]

/-- Whether one value lies in one bin. -/
def mark (x lo hi : F .f32) : BitVec 1 := IntOp.andi (FloatOps.cmpf .ogt x lo) (FloatOps.cmpf .ole x hi)

/-- The mask at an input and a bin is that bin's mark. -/
theorem inBin_apply (x : Vec F S8192x64 .f32) (lo hi : Vec F S64 .f32) (b : Fin 8192) (f k : Fin 64) :
    inBin x lo hi (ix3 b f k) = mark (x (ix2 b f)) (lo (ix1 k)) (hi (ix1 k)) := by
  pointwise [inBin, mark]

/-- Words the comparison finds equal are equal. -/
theorem word_eq_of_cmpi {a b : BitVec 32} (h : IntOp.cmpi .eq a b = 1#1) : a = b := by
  by_contra hne
  have e : IntOp.cmpi .eq a b = 0#1 := by
    show BitVec.ofBool (a == b) = 0#1
    rw [beq_false_of_ne hne]; rfl
  rw [e] at h
  exact absurd h (by decide)

/-- The precondition read back: each input lies in exactly one bin. -/
theorem one_of_pre (x : Vec F S8192x64 .f32) (lo hi : Vec F S64 .f32) (w : Vec F S64x64 .f32)
    (h : Cert.Pre_one_bin.fn x lo hi w = fun _ => 1#1) (b : Fin 8192) (f : Fin 64) :
    ∃ k₀ : Fin 64, ∀ k, mark (x (ix2 b f)) (lo (ix1 k)) (hi (ix1 k)) = if k = k₀ then 1#1 else 0#1 := by
  have e := congrFun h ix0
  unfold Cert.Pre_one_bin.fn at e
  haveI : Subsingleton (Cert.Pre_one_bin.S_).Idx := ⟨fun a b => funext fun i => i.elim0⟩
  have e1 := Host.reduce_andi_all _ _ _ _ _ e (ix2 b f)
  have e2 : (Host.reduce IntOp.addi (extui 32 (inBin x lo hi) (by decide : 1 < 32)) (constantI S_ 32 0#32)
      reducesTo_S8192x64x64_S8192x64_d2 h_S_ (ix2 b f)) = 1#32 := by
    exact word_eq_of_cmpi e1
  rw [Host.reduce_eq_fold, Shape.ReducesTo.fold_fiber_r3_a2] at e2
  have e3 := IndicatorCount.fold_addi_setWidth_eq_card (w := 32)
    (fun k : Fin 64 => mark (x (ix2 b f)) (lo (ix1 k)) (hi (ix1 k))) Finset.univ
  have e4 : BitVec.ofNat 32 (Finset.univ.filter fun k : Fin 64 => mark (x (ix2 b f)) (lo (ix1 k)) (hi (ix1 k)) = 1#1).card = 1#32 := by
    rw [← e3, ← e2]
    refine Finset.fold_congr fun k _ => ?_
    rw [← inBin_apply]
    rfl
  have hle : (Finset.univ.filter fun k : Fin 64 => mark (x (ix2 b f)) (lo (ix1 k)) (hi (ix1 k)) = 1#1).card ≤ 64 :=
    (Finset.card_filter_le _ _).trans (by simp)
  have hc : (Finset.univ.filter fun k : Fin 64 => mark (x (ix2 b f)) (lo (ix1 k)) (hi (ix1 k)) = 1#1).card = 1 := by
    have := congrArg BitVec.toNat e4
    rw [BitVec.toNat_ofNat, Nat.mod_eq_of_lt (by omega)] at this
    exact this
  obtain ⟨k₀, hk⟩ := Finset.card_eq_one.1 hc
  refine ⟨k₀, fun k => ?_⟩
  have hm : mark (x (ix2 b f)) (lo (ix1 k)) (hi (ix1 k)) = 1#1 ↔ k = k₀ := by
    have := Finset.ext_iff.1 hk k
    simpa using this
  by_cases hkk : k = k₀
  · rw [if_pos hkk]; exact hm.2 hkk
  · rw [if_neg hkk]; exact ValueIdx.eq_zero_of_ne_one fun h1 => hkk (hm.1 h1)

/-- A step of the search at an unmarked bin, before any mark: still no mark. -/
theorem step_zero_zero (i j : BitVec 32) : (reducer_argmax_i1_i32 (0#1, i) (0#1, j)).1 = 0#1 := by
  unfold reducer_argmax_i1_i32
  have h1 : IntOp.cmpi .ugt (0#1 : BitVec 1) 0#1 = 0#1 := by decide
  have h2 : IntOp.cmpi .ne (0#1 : BitVec 1) 0#1 = 0#1 := by decide
  simp [h1, h2, IntOp.ori, Scalar.select]

/-- A step of the search at the first marked bin takes its index. -/
theorem step_zero_one (i j : BitVec 32) : reducer_argmax_i1_i32 (0#1, i) (1#1, j) = (1#1, j) := by
  unfold reducer_argmax_i1_i32
  have h1 : IntOp.cmpi .ugt (0#1 : BitVec 1) 1#1 = 0#1 := by decide
  have h2 : IntOp.cmpi .ne (0#1 : BitVec 1) 0#1 = 0#1 := by decide
  have h3 : IntOp.cmpi .eq (0#1 : BitVec 1) 1#1 = 0#1 := by decide
  simp [h1, h2, h3, IntOp.ori, IntOp.andi, Scalar.select]

/-- A step of the search past the mark, at an unmarked bin, changes nothing. -/
theorem step_one_zero (i j : BitVec 32) : reducer_argmax_i1_i32 (1#1, i) (0#1, j) = (1#1, i) := by
  unfold reducer_argmax_i1_i32
  have h1 : IntOp.cmpi .ugt (1#1 : BitVec 1) 0#1 = 1#1 := by decide
  have h2 : IntOp.cmpi .ne (1#1 : BitVec 1) 1#1 = 0#1 := by decide
  have h3 : IntOp.cmpi .eq (1#1 : BitVec 1) 0#1 = 0#1 := by decide
  simp [h1, h2, h3, IntOp.ori, IntOp.andi, Scalar.select]

/-- A step of the search at the marked bin's own index again changes nothing. -/
theorem step_one_one (i : BitVec 32) : reducer_argmax_i1_i32 (1#1, i) (1#1, i) = (1#1, i) := by
  unfold reducer_argmax_i1_i32
  simp [Scalar.select]

/-- Once the mark is found the search keeps it. -/
theorem search_found {ι : Type} (p : ι → BitVec 1) (y : ι → BitVec 32) (v : BitVec 32) :
    ∀ l : List ι, (∀ n ∈ l, p n = 0#1 ∨ (p n = 1#1 ∧ y n = v)) →
      l.foldl (fun r n => reducer_argmax_i1_i32 r (p n, y n)) (1#1, v) = (1#1, v)
  | [], _ => rfl
  | n :: l, h => by
    rw [List.foldl_cons]
    have hs : reducer_argmax_i1_i32 (1#1, v) (p n, y n) = (1#1, v) := by
      rcases h n (List.mem_cons_self ..) with h0 | ⟨h1, hy⟩
      · rw [h0]; exact step_one_zero _ _
      · rw [h1, hy]; exact step_one_one _
    rw [hs]
    exact search_found p y v l fun q hq => h q (List.mem_cons_of_mem _ hq)

/-- A search that meets one mark, from no mark, ends at that mark's index. -/
theorem search_one {ι : Type} (p : ι → BitVec 1) (y : ι → BitVec 32) (n₀ : ι) (h₀ : p n₀ = 1#1) :
    ∀ (l : List ι), n₀ ∈ l → (∀ n ∈ l, p n = 0#1 ∨ (p n = 1#1 ∧ y n = y n₀)) → ∀ i : BitVec 32,
      l.foldl (fun r n => reducer_argmax_i1_i32 r (p n, y n)) (0#1, i) = (1#1, y n₀)
  | [], hm, _, _ => nomatch hm
  | n :: l, hm, h, i => by
    rw [List.foldl_cons]
    have hl : ∀ q ∈ l, p q = 0#1 ∨ (p q = 1#1 ∧ y q = y n₀) := fun q hq => h q (List.mem_cons_of_mem _ hq)
    rcases h n (List.mem_cons_self ..) with hn | ⟨hn, hy⟩
    · have hne : n₀ ≠ n := fun e => by rw [← e, h₀] at hn; exact absurd hn (by decide)
      have hml : n₀ ∈ l := (List.mem_cons.1 hm).resolve_left hne
      rw [hn, show reducer_argmax_i1_i32 (0#1, i) (0#1, y n) = (0#1, (reducer_argmax_i1_i32 (0#1, i) (0#1, y n)).2) from
        Prod.ext (step_zero_zero _ _) rfl]
      exact search_one p y n₀ h₀ l hml hl _
    · rw [hn, hy, step_zero_one]
      exact search_found p y _ l hl

/-- The two-operand reduction at a result whose operand marks one index value, from no mark: that index value. -/
theorem reduce_search {s t u : Shape} {axes : List (Fin s.rank)} (p : IVec s 1) (y : IVec s 32) (ip : IVec u 1) (iy : IVec u 32)
    (h : s.ReducesTo axes t) (hu : 0 < u.numel) (j : t.Idx) (i₀ : s.Idx) (hd : h.drop i₀ = j) (hp : p i₀ = 1#1)
    (hi : ip (Shape.Idx.first hu) = 0#1) (ho : ∀ i, h.drop i = j → p i = 0#1 ∨ (p i = 1#1 ∧ y i = y i₀)) :
    search p y ip iy h hu j = y i₀ := by
  unfold search Host.reduce2
  rw [hi, search_one (fun n => p (s.rowMajor.symm n)) (fun n => y (s.rowMajor.symm n)) (s.rowMajor i₀)
    (by rw [Equiv.symm_apply_apply, hp])]
  · simp only [Equiv.symm_apply_apply]
  · refine List.mem_filter.2 ⟨List.mem_finRange _, ?_⟩
    rw [Equiv.symm_apply_apply]
    exact decide_eq_true hd
  · intro n hn
    rw [Equiv.symm_apply_apply]
    exact ho _ (of_decide_eq_true (List.mem_filter.1 hn).2)

/-- The same along the last of three axes, the second operand counting that axis: the marked position. -/
theorem reduce_last {n0 n1 n2 : ℕ} {u : Shape} (h : (⟨3, ![n0, n1, n2]⟩ : Shape).ReducesTo [2] ⟨2, ![n0, n1]⟩) (hu : 0 < u.numel)
    (p : IVec ⟨3, ![n0, n1, n2]⟩ 1) (ip : IVec u 1) (iy : IVec u 32) (hi : ∀ i, ip i = 0#1) (b : Fin n0) (f : Fin n1) (k₀ : Fin n2)
    (hk : ∀ k, p (ix3 b f k) = if k = k₀ then 1#1 else 0#1) :
    search p (iotaInDim ⟨3, ![n0, n1, n2]⟩ 32 2) ip iy h hu (ix2 b f) = BitVec.ofNat 32 k₀.val := by
  refine (reduce_search p (iotaInDim ⟨3, ![n0, n1, n2]⟩ 32 2) ip iy h hu (ix2 b f) (ix3 b f k₀)
    ((Shape.ReducesTo.fiber_r3_a2 h (ix2 b f) _).2 ⟨k₀, rfl⟩) ((hk k₀).trans (if_pos rfl)) (hi _) fun i hi => ?_).trans rfl
  obtain ⟨k, rfl⟩ := (Shape.ReducesTo.fiber_r3_a2 h (ix2 b f) _).1 hi
  by_cases e : k = k₀
  · subst e
    exact Or.inr ⟨(hk k).trans (if_pos rfl), rfl⟩
  · exact Or.inl ((hk k).trans (if_neg e))

/-- The search over the bins of an input that one bin marks finds that bin. -/
theorem binAt_apply (p : IVec S8192x64x64 1) (b : Fin 8192) (f k₀ : Fin 64)
    (h : ∀ k, p (ix3 b f k) = if k = k₀ then 1#1 else 0#1) : binAt p (ix2 b f) = BitVec.ofNat 32 k₀.val := by
  unfold binAt
  exact reduce_last reducesTo_S8192x64x64_S8192x64_d2 h_S_ p _ _ (fun _ => rfl) b f k₀ h

end Cert.OneBin

end
-- ==== Proof.Sides.lean ====
/-
  Both programs' arithmetic read at one place of the result, over the extended reals: the reference's sum over the bins,
  and the kernel's product of the blurred table with a row of marks.
-/
module

public import proofs.«01_k».proof.Proof.OneBin
public import proofs.«01_k».proof.Proof.KernelIdealPoint

@[expose] public section

noncomputable section

namespace Cert.Sides

open Idealize.ShloMosaic

/-- One over one more than the distance of two indices, as words. -/
def near (a b : BitVec 32) : EReal :=
  Ideal.div (Ideal.ofBits .f32 0x3F800000#32) (((IntOp.addi (IntOp.absi (IntOp.subi a b)) 1#32).toInt : ℝ) : EReal)

/-- The absolute value of a word is that of its negation. -/
theorem absi_neg (x : BitVec 32) : IntOp.absi (-x) = IntOp.absi x := by
  unfold IntOp.absi
  by_cases h0 : x = 0#32
  · subst h0; rfl
  by_cases hm : x = BitVec.intMin 32
  · subst hm; rfl
  have e : (-x).msb = !x.msb := by
    rw [BitVec.msb_neg, bne_iff_ne.2 h0, bne_iff_ne.2 hm]
    cases x.msb <;> rfl
  rw [e]
  cases x.msb <;> simp

/-- Nearness does not depend on the order. -/
theorem near_comm (a b : BitVec 32) : near a b = near b a := by
  have h : IntOp.absi (IntOp.subi a b) = IntOp.absi (IntOp.subi b a) := by
    rw [← absi_neg]
    congr 1
    show -(a - b) = b - a
    rw [BitVec.neg_sub, BitVec.sub_eq_add_neg, BitVec.add_comm]
  unfold near
  rw [h]

section Reference

open Cert.ReferenceIdeal Cert.ReferenceIdeal.Gen Cert.ReferenceIdeal.Line

/-- The reference's weights at an input and a bin. -/
theorem nearness_apply (k : IVec S8192x64 32) (b : Fin 8192) (f j : Fin 64) :
    nearness (F := Ideal) k (ix3 b f j) = near (k (ix2 b f)) (BitVec.ofNat 32 j.val) := by
  pointwise [nearness, near]
  rfl

/-- The reference's contraction at a place. -/
theorem dot_apply (v : FVec Ideal S8192x64x64 .f32) (w : FVec Ideal S64x64 .f32) (b : Fin 8192) (f d : Fin 64) :
    Host.dotGeneral (F := Ideal) dot_S8192x64x64_S64x64_S8192x64x64_2_0_01_1_n_n none v w (ix3 b f d)
      = ∑ j : Fin 64, v (ix3 b f j) * w (ix2 j d) := by
  pointwise

end Reference

section Kernel

open Cert.KernelIdeal Cert.KernelIdeal.Gen Cert.KernelIdeal.Ring

/-- The kernel's blurred table at a column and a bin. -/
theorem table_apply (w : Vec Ideal S64x64 .f32) (d k : Fin 64) :
    k0_pay1 (F := Ideal) w (ix2 d k) = ∑ j : Fin 64, w (ix2 j d) * near (BitVec.ofNat 32 j.val) (BitVec.ofNat 32 k.val) := by
  pointwise [k0_pay1, near]
  rfl

/-- What the kernel computes for one row of a block, at a place. -/
theorem row_apply (w : Vec Ideal S64x64 .f32) (lo hi : Vec Ideal S64x256 .f32) (x : Vec Ideal S1x256 .f32) (d : Fin 64) (q : Fin 256) :
    rowV (F := Ideal) w lo hi x (ix4 0 0 d q)
      = ∑ k : Fin 64, k0_pay1 (F := Ideal) w (ix2 d k)
          * Scalar.select (OneBin.mark (F := Ideal) (x (ix2 0 q)) (lo (ix2 k q)) (hi (ix2 k q)))
              (Ideal.ofBits .f32 0x3F800000#32) (Ideal.ofBits .f32 0x00000000#32) := by
  pointwise [rowV, k0_pay5, k0_pay4, k0_pay2, k0_pay3, OneBin.mark]

end Kernel

end Cert.Sides

end
-- ==== Proof.Equation.lean ====
/-
  The two results are the same array. The kernel's blocks are read off the arguments, its sum of a table row against one
  mark is the table at the marked bin, and that is the reference's sum over the bins, its weights in the other order.
-/
module

public import proofs.«01_k».proof.Proof.Sides
public import proofs.«01_k».proof.Proof.KernelIdealRun

@[expose] public section

noncomputable section

namespace Cert.Equation

open Idealize.ShloMosaic Idealize.ShloMosaic.TcCoe
open Cert.KernelIdeal Cert.KernelIdeal.Gen Cert.KernelIdeal.Ring

variable (m : (ℓ : Loc nD τ sig) → Buf (Elt Ideal) ℓ) (c : Dev nD)

/-- The first argument's array. -/
abbrev xs : Vec Ideal S8192x64 .f32 := m ((c.tc : Thread nD τ).loc main_arg0)
/-- The bins' low ends. -/
abbrev los : Vec Ideal S64 .f32 := m ((c.tc : Thread nD τ).loc main_arg1)
/-- The bins' high ends. -/
abbrev his : Vec Ideal S64 .f32 := m ((c.tc : Thread nD τ).loc main_arg2)
/-- The table. -/
abbrev tbl : Vec Ideal S64x64 .f32 := m ((c.tc : Thread nD τ).loc main_arg3)

/-- The region finds the first argument transposed. -/
theorem V_x (n : Fin 64) (j : Fin 8192) : V m c main_v0 (ix2 n j) = xs m c (ix2 j n) := by
  have h : V m c main_v0 = transpose S64x8192 [1, 0] (xs m c) transposes_S8192x64_S64x8192_1_0 := by
    unfold V V0
    dsimp only [List.flatten, List.append]
    after_results
  rw [h]
  pointwise

/-- The region finds the low ends laid along the rows. -/
theorem V_lo (k : Fin 64) (q : Fin 256) : V m c main_v2 (ix2 k q) = los m c (ix1 k) := by
  have h : V m c main_v2 = broadcastInDim S64x256 ![0, 1] bcast_S64x1_S64x256_0_1 (broadcastInDim S64x1 ![0] bcast_S64_S64x1_0 (los m c)) := by
    unfold V V0
    dsimp only [List.flatten, List.append]
    after_results
  rw [h]
  pointwise

/-- The region finds the high ends laid along the rows. -/
theorem V_hi (k : Fin 64) (q : Fin 256) : V m c main_v4 (ix2 k q) = his m c (ix1 k) := by
  have h : V m c main_v4 = broadcastInDim S64x256 ![0, 1] bcast_S64x1_S64x256_0_1 (broadcastInDim S64x1 ![0] bcast_S64_S64x1_0 (his m c)) := by
    unfold V V0
    dsimp only [List.flatten, List.append]
    after_results
  rw [h]
  pointwise

/-- The first window's block is a column chunk of its array. -/
theorem index0 : ∀ t : Fin cfg0.N, (cfg0.win 0).index t 0 = 0 ∧ (cfg0.win 0).index t 1 = t.val := by decide
/-- The second window's block is its whole array. -/
theorem index1 : ∀ t : Fin cfg0.N, (cfg0.win 1).index t 0 = 0 ∧ (cfg0.win 1).index t 1 = 0 := by decide
/-- The third window's block is its whole array. -/
theorem index2 : ∀ t : Fin cfg0.N, (cfg0.win 2).index t 0 = 0 ∧ (cfg0.win 2).index t 1 = 0 := by decide
/-- The fourth window's block is its whole array. -/
theorem index3 : ∀ t : Fin cfg0.N, (cfg0.win 3).index t 0 = 0 ∧ (cfg0.win 3).index t 1 = 0 := by decide

/-- A block of inputs at a place. -/
theorem block_x (t : Fin cfg0.N) (n : Fin 64) (q : Fin 256) (j : Fin 8192) (hj : j.val = t.val * 256 + q.val) :
    iblk m c 0 t (ix2 n q) = xs m c (ix2 j n) := by
  rw [← V_x]
  unfold iblk
  show V m c main_v0 (((cfg0.win 0).rect t).emb (ix2 n q)) = _
  refine congrArg _ ?_
  funext a
  apply Fin.ext
  match a with
  | ⟨0, _⟩ => exact (Pipeline.Window.rect_emb_val_of_index_zero (cfg0.win 0) t 0 (index0 t).1 _)
  | ⟨1, _⟩ =>
    refine (Pipeline.Window.rect_emb_val (cfg0.win 0) t _ 1).trans ?_
    rw [(index0 t).2]
    exact hj.symm

/-- The block of low ends at a place. -/
theorem block_lo (t : Fin cfg0.N) (k : Fin 64) (q : Fin 256) : iblk m c 1 t (ix2 k q) = los m c (ix1 k) := by
  rw [← V_lo m c k q]
  unfold iblk
  show V m c main_v2 (((cfg0.win 1).rect t).emb (ix2 k q)) = _
  refine congrArg _ ?_
  funext a
  apply Fin.ext
  match a with
  | ⟨0, _⟩ => exact (Pipeline.Window.rect_emb_val_of_index_zero (cfg0.win 1) t 0 (index1 t).1 _)
  | ⟨1, _⟩ => exact (Pipeline.Window.rect_emb_val_of_index_zero (cfg0.win 1) t 1 (index1 t).2 _)

/-- The block of high ends at a place. -/
theorem block_hi (t : Fin cfg0.N) (k : Fin 64) (q : Fin 256) : iblk m c 2 t (ix2 k q) = his m c (ix1 k) := by
  rw [← V_hi m c k q]
  unfold iblk
  show V m c main_v4 (((cfg0.win 2).rect t).emb (ix2 k q)) = _
  refine congrArg _ ?_
  funext a
  apply Fin.ext
  match a with
  | ⟨0, _⟩ => exact (Pipeline.Window.rect_emb_val_of_index_zero (cfg0.win 2) t 0 (index2 t).1 _)
  | ⟨1, _⟩ => exact (Pipeline.Window.rect_emb_val_of_index_zero (cfg0.win 2) t 1 (index2 t).2 _)

/-- The table's block at a place. -/
theorem block_w (t : Fin cfg0.N) (j d : Fin 64) : iblk m c 3 t (ix2 j d) = tbl m c (ix2 j d) := by
  refine Eq.trans ?_ (congrFun (V_main_arg3 m c) (ix2 j d))
  unfold iblk
  show V m c main_arg3 (((cfg0.win 3).rect t).emb (ix2 j d)) = _
  refine congrArg _ ?_
  funext a
  apply Fin.ext
  match a with
  | ⟨0, _⟩ => exact (Pipeline.Window.rect_emb_val_of_index_zero (cfg0.win 3) t 0 (index3 t).1 _)
  | ⟨1, _⟩ => exact (Pipeline.Window.rect_emb_val_of_index_zero (cfg0.win 3) t 1 (index3 t).2 _)

/-- The kernel's result at a place, where exactly one bin takes the input. -/
theorem kernel_apply (b : Fin 8192) (f d k₀ : Fin 64)
    (h : ∀ k : Fin 64, OneBin.mark (F := Ideal) (xs m c (ix2 b f)) (los m c (ix1 k)) (his m c (ix1 k)) = if k = k₀ then 1#1 else 0#1) :
    Gf m c (ix3 f d b) = k0_pay1 (F := Ideal) (tbl m c) (ix2 d k₀) := by
  have hw : iblk m c 3 (ptOf b) = tbl m c := by
    funext i
    rw [eq_ix2 i]
    exact block_w m c (ptOf b) (i 0) (i 1)
  have hq : b.val % 256 < 256 := Nat.mod_lt _ (by decide)
  have hb : b.val = (ptOf b).val * 256 + b.val % 256 := by
    show b.val = b.val / 256 * 256 + b.val % 256
    omega
  have hm : ∀ k : Fin 64, OneBin.mark (F := Ideal) (rowOf (iblk m c 0 (ptOf b)) f (ix2 (0 : Fin 1) (⟨b.val % 256, hq⟩ : Fin 256)))
      (iblk m c 1 (ptOf b) (ix2 k (⟨b.val % 256, hq⟩ : Fin 256))) (iblk m c 2 (ptOf b) (ix2 k (⟨b.val % 256, hq⟩ : Fin 256)))
      = if k = k₀ then 1#1 else 0#1 := by
    intro k
    rw [block_lo, block_hi]
    refine Eq.trans ?_ (h k)
    exact congrArg (fun x => OneBin.mark (F := Ideal) x (los m c (ix1 k)) (his m c (ix1 k))) (block_x m c (ptOf b) f ⟨b.val % 256, hq⟩ b hb)
  refine (Sides.row_apply (iblk m c 3 (ptOf b)) (iblk m c 1 (ptOf b)) (iblk m c 2 (ptOf b)) (rowOf (iblk m c 0 (ptOf b)) f) d ⟨b.val % 256, hq⟩).trans ?_
  rw [hw]
  refine (Finset.sum_eq_single k₀ ?_ ?_).trans ?_
  · intro k _ hk
    rw [hm k, if_neg hk, show Scalar.select (0#1) (Ideal.ofBits .f32 0x3F800000#32) (Ideal.ofBits .f32 0x00000000#32) = Ideal.ofBits .f32 0x00000000#32 from rfl,
      Ideal.ofBits_zero_f32]
    exact mul_zero _
  · intro hk
    exact absurd (Finset.mem_univ k₀) hk
  · rw [hm k₀, if_pos rfl, show Scalar.select (1#1) (Ideal.ofBits .f32 0x3F800000#32) (Ideal.ofBits .f32 0x00000000#32) = Ideal.ofBits .f32 0x3F800000#32 from rfl,
      Ideal.ofBits_one_f32]
    exact mul_one _

/-- The reference's result at a place, where exactly one bin takes the input. -/
theorem reference_apply (b : Fin 8192) (f d k₀ : Fin 64) (x : Vec Ideal S8192x64 .f32) (lo hi : Vec Ideal S64 .f32) (w : Vec Ideal S64x64 .f32)
    (h : ∀ k : Fin 64, OneBin.mark (F := Ideal) (x (ix2 b f)) (lo (ix1 k)) (hi (ix1 k)) = if k = k₀ then 1#1 else 0#1) :
    ReferenceIdeal.Line.refOut (F := Ideal) x lo hi w (ix3 b f d) = k0_pay1 (F := Ideal) w (ix2 d k₀) := by
  have hk : ReferenceIdeal.Line.binAt (ReferenceIdeal.Line.inBin (F := Ideal) x lo hi) (ix2 b f) = BitVec.ofNat 32 k₀.val :=
    OneBin.binAt_apply _ b f k₀ fun k => (OneBin.inBin_apply x lo hi b f k).trans (h k)
  refine (Sides.dot_apply _ w b f d).trans ?_
  rw [Sides.table_apply]
  refine Finset.sum_congr rfl fun j _ => ?_
  rw [Sides.nearness_apply, hk, Sides.near_comm]
  exact mul_comm _ _

/-- Where exactly one bin takes each input, the kernel's result is the reference's. -/
theorem results_eq (hpre : Cert.Pre_one_bin.fn (F := Ideal) (xs m c) (los m c) (his m c) (tbl m c) = fun _ => 1#1) :
    transpose S8192x64x64 [2, 0, 1] (Gf m c) transposes_S64x64x8192_S8192x64x64_2_0_1
      = ReferenceIdeal.Line.refOut (F := Ideal) (xs m c) (los m c) (his m c) (tbl m c) := by
  funext i
  rw [eq_ix3 i]
  obtain ⟨k₀, hk⟩ := OneBin.one_of_pre (xs m c) (los m c) (his m c) (tbl m c) hpre (i 0) (i 1)
  refine Eq.trans ?_ (reference_apply (i 0) (i 1) (i 2) k₀ (xs m c) (los m c) (his m c) (tbl m c) hk).symm
  refine Eq.trans ?_ (kernel_apply m c (i 0) (i 1) (i 2) k₀ hk)
  generalize Gf m c = g
  pointwise

end Cert.Equation

end
-- ==== Proof.lean ====
/- The certificate's claims, assembled: the three programs' runs give the frames and the zero counters, the equation of
   the two results at a marked bin gives the algebraic claim. -/
module

public import proofs.«01_k».proof.Defs
public import proofs.«01_k».proof.Proof.Gen.Pre_one_bin
public import proofs.«01_k».proof.Proof.KernelFrame
public import proofs.«01_k».proof.Proof.KernelIdealRun
public import proofs.«01_k».proof.Proof.ReferenceRun
public import proofs.«01_k».proof.Proof.Equation
public import Idealize.ShloMosaic.Adequacy
public import Idealize.ShloMosaic.Init

@[expose] public section

noncomputable section

namespace Cert.Proof

open Idealize.ShloMosaic Idealize.SL.Sem

/-- Every claim of the certificate. -/
theorem claim : Cert.Claim := by
  refine ⟨Cert.Kernel.Gen.facts, Cert.KernelIdeal.Gen.facts, Cert.ReferenceIdeal.Gen.facts, Cert.Pre_one_bin.Gen.facts,
    ?_, ?_, ?_, ?_, ?_, trivial, ?_⟩
  · exact Cert.KernelFrame.frame
  · intro m g _
    exact Cert.KernelIdeal.Ring.run_frame m g
  · intro m g _
    exact Cert.KernelIdeal.Ring.run_frame m g
  · intro m g _
    exact (θ_run _ _ _).mono (fun r h => ⟨fun c => (h.1 c).2, h.2⟩) (Cert.ReferenceIdeal.Line.run_main m g)
  · intro m g _
    exact (θ_run _ _ _).mono (fun r h => ⟨fun c => (h.1 c).2, h.2⟩) (Cert.ReferenceIdeal.Line.run_main m g)
  · intro m g m' g' hpre hargs
    refine ⟨fun c => transpose Cert.KernelIdeal.S8192x64x64 [2, 0, 1] (Cert.KernelIdeal.Ring.Gf m c)
      Cert.KernelIdeal.Gen.transposes_S64x64x8192_S8192x64x64_2_0_1, ?_, ?_⟩
    · exact (θ_run _ _ _).mono (fun r h c => h.1 c) (Cert.KernelIdeal.Ring.run_main m g)
    · refine (θ_run _ _ _).mono (fun r h c => ⟨(h.1 c).1.trans ?_, (h.1 c).2⟩) (Cert.ReferenceIdeal.Line.run_main m' g')
      obtain ⟨h0, h1, h2, h3⟩ := hargs c
      rw [h0, h1, h2, h3]
      exact (Cert.Equation.results_eq m c (hpre c)).symm

end Cert.Proof

end
